-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "s" .f32 0x3DB504F3#32 (((Real.sqrt 128)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x384x32x32 : Shape := ⟨4, ![8, 384, 32, 32]⟩
abbrev S128x384 : Shape := ⟨2, ![128, 384]⟩
abbrev S384x128 : Shape := ⟨2, ![384, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S128x1024 : Shape := ⟨2, ![128, 1024]⟩
abbrev S384 : Shape := ⟨1, ![384]⟩
abbrev S_ : Shape := ⟨0, ![]⟩

class Facts : Prop where
  bcast_S_S8x384x32x32 : S_.BroadcastsInDim S8x384x32x32 (![] : Fin 0 → Fin S8x384x32x32.rank)
  reducesTo_S8x384x32x32_S_d0_1_2_3 : S8x384x32x32.ReducesTo [0, 1, 2, 3] S_
  h_S_ : 0 < S_.numel
  bcast_S_S128x384 : S_.BroadcastsInDim S128x384 (![] : Fin 0 → Fin S128x384.rank)
  reducesTo_S128x384_S_d0_1 : S128x384.ReducesTo [0, 1] S_
  bcast_S_S384x128 : S_.BroadcastsInDim S384x128 (![] : Fin 0 → Fin S384x128.rank)
  reducesTo_S384x128_S_d0_1 : S384x128.ReducesTo [0, 1] S_
  bcast_S_S128x1024 : S_.BroadcastsInDim S128x1024 (![] : Fin 0 → Fin S128x1024.rank)
  reducesTo_S128x1024_S_d0_1 : S128x1024.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384x128 .f32) (main_arg9 : FVec F S128x1024 .f32) (main_arg10 : FVec F S384 .f32) (main_v3 : IVec S_ 1) (main_v7 : IVec S_ 1) (main_v11 : IVec S_ 1) (main_v15 : IVec S_ 1) : IVec S_ 1 :=
  let main_v16 : FVec F S384x128 .f32 := Host.absf main_arg4
  let main_cst_6 : FVec F S_ .f32 := constant S_ .f32 0x7F800000#32
  let main_v17 : FVec F S384x128 .f32 := broadcastInDim S384x128 ![] bcast_S_S384x128 main_cst_6
  let main_v18 : IVec S384x128 1 := cmpf .olt main_v16 main_v17
  let main_c_7 : IVec S_ 1 := constantI S_ 1 1#1
  let main_v19 : IVec S_ 1 := (fun x v => Host.reduce IntOp.andi x v reducesTo_S384x128_S_d0_1 h_S_) main_v18 main_c_7
  let main_v20 : FVec F S128x1024 .f32 := Host.absf main_arg9
  let main_cst_8 : FVec F S_ .f32 := constant S_ .f32 0x7F800000#32
  let main_v21 : FVec F S128x1024 .f32 := broadcastInDim S128x1024 ![] bcast_S_S128x1024 main_cst_8
  let main_v22 : IVec S128x1024 1 := cmpf .olt main_v20 main_v21
  let main_c_9 : IVec S_ 1 := constantI S_ 1 1#1
  let main_v23 : IVec S_ 1 := (fun x v => Host.reduce IntOp.andi x v reducesTo_S128x1024_S_d0_1 h_S_) main_v22 main_c_9
  let main_v24 : FVec F S384 .f32 := Host.absf main_arg10
  let main_cst_10 : FVec F S_ .f32 := constant S_ .f32 0x7F800000#32
  let main_v25 : FVec F S384 .f32 := broadcastInDim S384 ![] bcast_S_S384 main_cst_10
  let main_v26 : IVec S384 1 := cmpf .olt main_v24 main_v25
  let main_c_11 : IVec S_ 1 := constantI S_ 1 1#1
  let main_v27 : IVec S_ 1 := (fun x v => Host.reduce IntOp.andi x v reducesTo_S384_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S8x384x32x32 .f32) (main_arg1 : FVec F S128x384 .f32) (main_arg2 : FVec F S128x384 .f32) (main_arg3 : FVec F S128x384 .f32) (main_arg4 : FVec F S384x128 .f32) (main_arg5 : FVec F S256x1024 .f32) (main_arg6 : FVec F S256 .f32) (main_arg7 : FVec F S1024x256 .f32) (main_arg8 : FVec F S1024 .f32) (main_arg9 : FVec F S128x1024 .f32) (main_arg10 : FVec F S384 .f32) (main_arg11 : FVec F S384 .f32) : IVec S_ 1 :=
  let main_v0 : FVec F S8x384x32x32 .f32 := Host.absf main_arg0
  let main_cst : FVec F S_ .f32 := constant S_ .f32 0x7F800000#32
  let main_v1 : FVec F S8x384x32x32 .f32 := broadcastInDim S8x384x32x32 ![] bcast_S_S8x384x32x32 main_cst
  let main_v2 : IVec S8x384x32x32 1 := cmpf .olt main_v0 main_v1
  let main_c : IVec S_ 1 := constantI S_ 1 1#1
  let main_v3 : IVec S_ 1 := (fun x v => Host.reduce IntOp.andi x v reducesTo_S8x384x32x32_S_d0_1_2_3 h_S_) main_v2 main_c
  let main_v4 : FVec F S128x384 .f32 := Host.absf main_arg1
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : FVec F S128x384 .f32 := Host.absf main_arg2
  let main_cst_2 : FVec F S_ .f32 := constant S_ .f32 0x7F800000#32
  let main_v9 : FVec F S128x384 .f32 := broadcastInDim S128x384 ![] bcast_S_S128x384 main_cst_2
  let main_v10 : IVec S128x384 1 := cmpf .olt main_v8 main_v9
  let main_c_3 : IVec S_ 1 := constantI S_ 1 1#1
  let main_v11 : IVec S_ 1 := (fun x v => Host.reduce IntOp.andi x v reducesTo_S128x384_S_d0_1 h_S_) main_v10 main_c_3
  let main_v12 : FVec F S128x384 .f32 := Host.absf main_arg3
  let main_cst_4 : FVec F S_ .f32 := constant S_ .f32 0x7F800000#32
  let main_v13 : FVec F S128x384 .f32 := broadcastInDim S128x384 ![] bcast_S_S128x384 main_cst_4
  let main_v14 : IVec S128x384 1 := cmpf .olt main_v12 main_v13
  let main_c_5 : IVec S_ 1 := constantI S_ 1 1#1
  let main_v15 : IVec S_ 1 := (fun x v => Host.reduce IntOp.andi x v reducesTo_S128x384_S_d0_1 h_S_) main_v14 main_c_5
  fn_part1 (F := F) main_arg4 main_arg9 main_arg10 main_v3 main_v7 main_v11 main_v15
-- ==== Kernel.lean ====
abbrev S8x384x32x32 : Shape := ⟨4, ![8, 384, 32, 32]⟩
abbrev S128x384 : Shape := ⟨2, ![128, 384]⟩
abbrev S384x128 : Shape := ⟨2, ![384, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S128x1024 : Shape := ⟨2, ![128, 1024]⟩
abbrev S384 : Shape := ⟨1, ![384]⟩
abbrev S8x384x1024 : Shape := ⟨3, ![8, 384, 1024]⟩
abbrev S1x256 : Shape := ⟨2, ![1, 256]⟩
abbrev S1x1024 : Shape := ⟨2, ![1, 1024]⟩
abbrev S384x1 : Shape := ⟨2, ![384, 1]⟩
abbrev S2x384x1024 : Shape := ⟨3, ![2, 384, 1024]⟩
abbrev S1x384x1024 : Shape := ⟨3, ![1, 384, 1024]⟩
abbrev S384x1024 : Shape := ⟨2, ![384, 1024]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x384x32x32, .f32⟩
  | .hbm, ⟨1, _⟩ => ⟨S128x384, .f32⟩
  | .hbm, ⟨2, _⟩ => ⟨S128x384, .f32⟩
  | .hbm, ⟨3, _⟩ => ⟨S128x384, .f32⟩
  | .hbm, ⟨4, _⟩ => ⟨S384x128, .f32⟩
  | .hbm, ⟨5, _⟩ => ⟨S256x1024, .f32⟩
  | .hbm, ⟨6, _⟩ => ⟨S256, .f32⟩
  | .hbm, ⟨7, _⟩ => ⟨S1024x256, .f32⟩
  | .hbm, ⟨8, _⟩ => ⟨S1024, .f32⟩
  | .hbm, ⟨9, _⟩ => ⟨S128x1024, .f32⟩
  | .hbm, ⟨10, _⟩ => ⟨S384, .f32⟩
  | .hbm, ⟨11, _⟩ => ⟨S384, .f32⟩
  | .hbm, ⟨12, _⟩ => ⟨S8x384x1024, .f32⟩
  | .hbm, ⟨13, _⟩ => ⟨S1x256, .f32⟩
  | .hbm, ⟨14, _⟩ => ⟨S1x1024, .f32⟩
  | .hbm, ⟨15, _⟩ => ⟨S384x1, .f32⟩
  | .hbm, ⟨16, _⟩ => ⟨S384x1, .f32⟩
  | .hbm, ⟨17, _⟩ => ⟨S8x384x1024, .f32⟩
  | .local _ .vmem, ⟨0, _⟩ => ⟨S2x384x1024, .f32⟩
  | .local _ .vmem, ⟨1, _⟩ => ⟨S2x384x1024, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S384x128, .f32⟩
  | .local _ .vmem, ⟨6, _⟩ => ⟨S256x1024, .f32⟩
  | .local _ .vmem, ⟨7, _⟩ => ⟨S1x256, .f32⟩
  | .local _ .vmem, ⟨8, _⟩ => ⟨S1024x256, .f32⟩
  | .local _ .vmem, ⟨9, _⟩ => ⟨S1x1024, .f32⟩
  | .local _ .vmem, ⟨10, _⟩ => ⟨S128x1024, .f32⟩
  | .local _ .vmem, ⟨11, _⟩ => ⟨S384x1, .f32⟩
  | .local _ .vmem, ⟨12, _⟩ => ⟨S384x1, .f32⟩
  | .local _ .vmem, ⟨13, _⟩ => ⟨S8x384x1024, .f32⟩
  | .local _ .vmem, ⟨14, _⟩ => ⟨S384x1, .f32⟩
  | .local _ .vmem, ⟨15, _⟩ => ⟨S384x1, .f32⟩
  | _, _ => ⟨S8x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13

abbrev nD : Nat := 1
abbrev τ : Topo := Topo.v7x

variable {F : FTy → Type} [FloatOps F]

abbrev grid0 : Pipeline.Grid := ⟨1, ![4], ![false]⟩

def k0_off1 (i : grid0.Coords) (c0_i32_44 : BitVec 32) : Fin 3 → Nat :=
  let arg0 : BitVec 32 := BitVec.ofNat 32 (i 0).val
  let c2_i32 : BitVec 32 := 2#32
  let v82 : BitVec 32 := Scalar.muli arg0 c2_i32
  let v83 : BitVec 32 := Scalar.addi v82 c0_i32_44
  let v84 : Index := Scalar.indexCast v83
  let c0_45 : Index := 0#32
  let c0_46 : Index := 0#32
  ![v84.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x384x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "s" => some (((Real.sqrt 128)⁻¹ : ℝ) : EReal)
  | _ => none
-- ==== ReferenceIdeal.lean ====
abbrev S8x384x32x32 : Shape := ⟨4, ![8, 384, 32, 32]⟩
abbrev S128x384 : Shape := ⟨2, ![128, 384]⟩
abbrev S384x128 : Shape := ⟨2, ![384, 128]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S128x1024 : Shape := ⟨2, ![128, 1024]⟩
abbrev S384 : Shape := ⟨1, ![384]⟩
abbrev S_ : Shape := ⟨0, ![]⟩
abbrev S8x384x1024 : Shape := ⟨3, ![8, 384, 1024]⟩
abbrev S8x1024x128 : Shape := ⟨3, ![8, 1024, 128]⟩
abbrev S8x1024x1024 : Shape := ⟨3, ![8, 1024, 1024]⟩
abbrev S8x1024 : Shape := ⟨2, ![8, 1024]⟩
abbrev S8x1024x1 : Shape := ⟨3, ![8, 1024, 1]⟩
abbrev S8x1024x256 : Shape := ⟨3, ![8, 1024, 256]⟩
abbrev S1x1x256 : Shape := ⟨3, ![1, 1, 256]⟩
abbrev S1x1x1024 : Shape := ⟨3, ![1, 1, 1024]⟩
abbrev S8x128x1024 : Shape := ⟨3, ![8, 128, 1024]⟩
abbrev S384x8x1024 : Shape := ⟨3, ![384, 8, 1024]⟩
abbrev S1x384x1x1 : Shape := ⟨4, ![1, 384, 1, 1]⟩

abbrev nBuf : Space → Nat
  | .hbm => 154
  | .vmem => 0
  | .smem => 0
  | _ => 0

abbrev hbmTy0_0 (i : Nat) : BufTy := match i % 128 with
  | 0 => ⟨S8x384x32x32, .f32⟩
  | 1 => ⟨S128x384, .f32⟩
  | 2 => ⟨S128x384, .f32⟩
  | 3 => ⟨S128x384, .f32⟩
  | 4 => ⟨S384x128, .f32⟩
  | 5 => ⟨S256x1024, .f32⟩
  | 6 => ⟨S256, .f32⟩
  | 7 => ⟨S1024x256, .f32⟩
  | 8 => ⟨S1024, .f32⟩
  | 9 => ⟨S128x1024, .f32⟩
  | 10 => ⟨S384, .f32⟩
  | 11 => ⟨S384, .f32⟩
  | 12 => ⟨S_, .f32⟩
  | 13 => ⟨S_, .f32⟩
  | 14 => ⟨S_, .f32⟩
  | 15 => ⟨S_, .f32⟩
  | 16 => ⟨S8x384x1024, .f32⟩
  | 17 => ⟨S8x1024x128, .f32⟩
  | 18 => ⟨S8x1024x1024, .f32⟩
  | 19 => ⟨S8x1024x1024, .f32⟩
  | 20 => ⟨S8x1024x1024, .f32⟩
  | 21 => ⟨S_, .f32⟩
  | 22 => ⟨S8x1024, .f32⟩
  | 23 => ⟨S_, .f32⟩
  | 24 => ⟨S8x1024, .f32⟩
  | 25 => ⟨S8x1024, .f32⟩
  | 26 => ⟨S8x1024x1, .f32⟩
  | 27 => ⟨S8x1024x1024, .f32⟩
  | 28 => ⟨S8x1024x1024, .f32⟩
  | 29 => ⟨S8x1024x1024, .f32⟩
  | 30 => ⟨S_, .f32⟩
  | 31 => ⟨S8x1024, .f32⟩
  | 32 => ⟨S8x1024x1, .f32⟩
  | 33 => ⟨S8x1024x1024, .f32⟩
  | 34 => ⟨S8x1024x1024, .f32⟩
  | 35 => ⟨S8x1024x256, .f32⟩
  | 36 => ⟨S1x1x256, .f32⟩
  | 37 => ⟨S8x1024x256, .f32⟩
  | 38 => ⟨S8x1024x256, .f32⟩
  | 39 => ⟨S_, .f32⟩
  | 40 => ⟨S8x1024x256, .f32⟩
  | 41 => ⟨S8x1024x256, .f32⟩
  | 42 => ⟨S8x1024x1024, .f32⟩
  | 43 => ⟨S1x1x1024, .f32⟩
  | 44 => ⟨S8x1024x1024, .f32⟩
  | 45 => ⟨S8x1024x1024, .f32⟩
  | 46 => ⟨S8x1024x1024, .f32⟩
  | 47 => ⟨S8x1024x1024, .f32⟩
  | 48 => ⟨S_, .f32⟩
  | 49 => ⟨S8x1024x1024, .f32⟩
  | 50 => ⟨S8x1024x1024, .f32⟩
  | 51 => ⟨S_, .f32⟩
  | 52 => ⟨S8x1024x1024, .f32⟩
  | 53 => ⟨S8x1024x1024, .f32⟩
  | 54 => ⟨S8x1024x1024, .f32⟩
  | 55 => ⟨S_, .f32⟩
  | 56 => ⟨S8x1024x1024, .f32⟩
  | 57 => ⟨S8x1024x1024, .f32⟩
  | 58 => ⟨S8x1024x1024, .f32⟩
  | 59 => ⟨S_, .f32⟩
  | 60 => ⟨S8x1024x1024, .f32⟩
  | 61 => ⟨S8x1024x1024, .f32⟩
  | 62 => ⟨S_, .f32⟩
  | 63 => ⟨S8x1024x1024, .f32⟩
  | 64 => ⟨S8x1024x1024, .f32⟩
  | 65 => ⟨S8x1024x1024, .f32⟩
  | 66 => ⟨S_, .f32⟩
  | 67 => ⟨S8x1024x1024, .f32⟩
  | 68 => ⟨S8x1024x1024, .i1⟩
  | 69 => ⟨S_, .f32⟩
  | 70 => ⟨S_, .f32⟩
  | 71 => ⟨S8x1024x1024, .f32⟩
  | 72 => ⟨S8x1024x1024, .f32⟩
  | 73 => ⟨S8x1024x1024, .f32⟩
  | 74 => ⟨S_, .f32⟩
  | 75 => ⟨S8x1024, .f32⟩
  | 76 => ⟨S8x1024x1, .f32⟩
  | 77 => ⟨S_, .f32⟩
  | 78 => ⟨S8x1024x1, .f32⟩
  | 79 => ⟨S8x1024x1, .f32⟩
  | 80 => ⟨S8x1024x1024, .f32⟩
  | 81 => ⟨S8x1024x1024, .f32⟩
  | 82 => ⟨S8x1024x128, .f32⟩
  | 83 => ⟨S8x1024x128, .f32⟩
  | 84 => ⟨S8x128x1024, .f32⟩
  | 85 => ⟨S8x1024x128, .f32⟩
  | 86 => ⟨S8x1024x1024, .f32⟩
  | 87 => ⟨S8x1024x1024, .f32⟩
  | 88 => ⟨S8x1024x1024, .f32⟩
  | 89 => ⟨S_, .f32⟩
  | 90 => ⟨S8x1024, .f32⟩
  | 91 => ⟨S_, .f32⟩
  | 92 => ⟨S8x1024, .f32⟩
  | 93 => ⟨S8x1024, .f32⟩
  | 94 => ⟨S8x1024x1, .f32⟩
  | 95 => ⟨S8x1024x1024, .f32⟩
  | 96 => ⟨S8x1024x1024, .f32⟩
  | 97 => ⟨S8x1024x1024, .f32⟩
  | 98 => ⟨S_, .f32⟩
  | 99 => ⟨S8x1024, .f32⟩
  | 100 => ⟨S8x1024x1, .f32⟩
  | 101 => ⟨S8x1024x1024, .f32⟩
  | 102 => ⟨S8x1024x1024, .f32⟩
  | 103 => ⟨S8x1024x128, .f32⟩
  | 104 => ⟨S8x1024x128, .f32⟩
  | 105 => ⟨S384x8x1024, .f32⟩
  | 106 => ⟨S8x384x1024, .f32⟩
  | 107 => ⟨S8x384x32x32, .f32⟩
  | 108 => ⟨S8x384x32x32, .f32⟩
  | 109 => ⟨S_, .f32⟩
  | 110 => ⟨S384, .f32⟩
  | 111 => ⟨S1x384x1x1, .f32⟩
  | 112 => ⟨S_, .f32⟩
  | 113 => ⟨S1x384x1x1, .f32⟩
  | 114 => ⟨S1x384x1x1, .f32⟩
  | 115 => ⟨S_, .i32⟩
  | 116 => ⟨S_, .f32⟩
  | 117 => ⟨S384, .f32⟩
  | 118 => ⟨S1x384x1x1, .f32⟩
  | 119 => ⟨S_, .f32⟩
  | 120 => ⟨S1x384x1x1, .f32⟩
  | 121 => ⟨S1x384x1x1, .f32⟩
  | 122 => ⟨S8x384x32x32, .f32⟩
  | 123 => ⟨S8x384x32x32, .f32⟩
  | 124 => ⟨S8x384x32x32, .f32⟩
  | 125 => ⟨S_, .f32⟩
  | 126 => ⟨S_, .f32⟩
  | 127 => ⟨S_, .f32⟩
  | _ => ⟨S8x384x32x32, .f32⟩

abbrev hbmTy0_1 (i : Nat) : BufTy := match i % 128 with
  | 0 => ⟨S_, .f32⟩
  | 1 => ⟨S384, .f32⟩
  | 2 => ⟨S1x384x1x1, .f32⟩
  | 3 => ⟨S1x384x1x1, .f32⟩
  | 4 => ⟨S1x384x1x1, .f32⟩
  | 5 => ⟨S_, .f32⟩
  | 6 => ⟨S_, .i1⟩
  | 7 => ⟨S_, .f32⟩
  | 8 => ⟨S_, .f32⟩
  | 9 => ⟨S1x384x1x1, .f32⟩
  | 10 => ⟨S1x384x1x1, .f32⟩
  | 11 => ⟨S8x384x32x32, .f32⟩
  | 12 => ⟨S8x384x32x32, .f32⟩
  | 13 => ⟨S_, .f32⟩
  | 14 => ⟨S1x384x1x1, .f32⟩
  | 15 => ⟨S1x384x1x1, .f32⟩
  | 16 => ⟨S1x384x1x1, .f32⟩
  | 17 => ⟨S8x384x32x32, .f32⟩
  | 18 => ⟨S8x384x32x32, .f32⟩
  | 19 => ⟨S1x384x1x1, .f32⟩
  | 20 => ⟨S8x384x32x32, .f32⟩
  | 21 => ⟨S8x384x32x32, .f32⟩
  | 22 => ⟨S1x384x1x1, .f32⟩
  | 23 => ⟨S8x384x32x32, .f32⟩
  | 24 => ⟨S8x384x32x32, .f32⟩
  | 25 => ⟨S8x384x1024, .f32⟩
  | _ => ⟨S8x384x32x32, .f32⟩

abbrev hbmTy (i : Nat) : BufTy := match i / 128 with
  | 0 => hbmTy0_0 i
  | 1 => hbmTy0_1 i
  | _ => ⟨S8x384x32x32, .f32⟩

abbrev bufTy : (tb : Table) → Fin (tcTables nBuf tb) → BufTy
  | .hbm, ⟨i, _⟩ => hbmTy i
  | _, _ => ⟨S8x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_cst : Ref sig .tc := ⟨.hbm, 39, rfl⟩
abbrev main_call0_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_call1_cst : Ref sig .tc := ⟨.hbm, 62, rfl⟩
abbrev main_call1_v0 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_v44 : Ref sig .tc := ⟨.hbm, 73, rfl⟩
abbrev main_cst_10 : Ref sig .tc := ⟨.hbm, 74, rfl⟩
abbrev main_v45 : Ref sig .tc := ⟨.hbm, 75, rfl⟩
abbrev main_v46 : Ref sig .tc := ⟨.hbm, 76, rfl⟩
abbrev main_cst_11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_12 : Ref sig .tc := ⟨.hbm, 89, rfl⟩
abbrev main_v58 : Ref sig .tc := ⟨.hbm, 90, rfl⟩
abbrev main_cst_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_14 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_c : Ref sig .tc := ⟨.hbm, 115, rfl⟩
abbrev main_call3_cst : Ref sig .tc := ⟨.hbm, 116, rfl⟩
abbrev main_call3_v0 : Ref sig .tc := ⟨.hbm, 117, rfl⟩
abbrev main_call3_v1 : Ref sig .tc := ⟨.hbm, 118, rfl⟩
abbrev main_call3_cst_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_v6 : Ref sig .tc := ⟨.hbm, 124, rfl⟩
abbrev main_call3_v7 : Ref sig .tc := ⟨.hbm, 125, rfl⟩
abbrev main_call3_cst_1 : Ref sig .tc := ⟨.hbm, 126, rfl⟩
abbrev main_call3_v8 : Ref sig .tc := ⟨.hbm, 127, rfl⟩
abbrev main_call3_cst_2 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_v12 : Ref sig .tc := ⟨.hbm, 132, rfl⟩
abbrev main_call3_cst_3 : Ref sig .tc := ⟨.hbm, 133, rfl⟩
abbrev main_call3_v13 : Ref sig .tc := ⟨.hbm, 134, rfl⟩
abbrev main_call3_cst_4 : Ref sig .tc := ⟨.hbm, 135, rfl⟩
abbrev main_call3_call0_v0 : Ref sig .tc := ⟨.hbm, 136, rfl⟩
abbrev main_call3_call0_v1 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_cst_17 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩

abbrev nD : Nat := 1
abbrev τ : Topo := Topo.v7x

variable {F : FTy → Type} [FloatOps F]
-- ==== Proof.Block.lean ====
module

public import proofs.«01_k».proof.Proof.Gen.KernelIdeal.Frame
public import proofs.«01_k».proof.Proof.Gen.KernelIdeal.Skeleton
public import Idealize.ShloMosaic.Lib.ValueIdxCore

/-!
What the kernel makes of ONE image, of a pair of images at one grid point, and of the whole stack at the last point,
as functions of the values it loads. Nothing here runs the program: Body.lean shows that the body stores these.
-/

@[expose] public section

set_option maxRecDepth 16384

noncomputable section

namespace Cert.KernelIdeal.Hand

open Idealize.ShloMosaic Idealize.ShloMosaic.ValueIdx Cert.KernelIdeal.Gen

variable {F : FTy → Type} [FloatOps F] [Named F]

/-- The weights the kernel reads at every grid point. -/
structure Weights (F : FTy → Type) where
  theta : Vec F S128x384 .f32
  phi : Vec F S128x384 .f32
  g : Vec F S128x384 .f32
  o : Vec F S384x128 .f32
  w1 : Vec F S256x1024 .f32
  b1 : Vec F S1x256 .f32
  w2 : Vec F S1024x256 .f32
  b2 : Vec F S1x1024 .f32
  proto : Vec F S128x1024 .f32

/-- What the kernel computes of one image before normalisation: the image plus the output projection of what it reads
from the memory and of its self-attention. -/
def image (W : Weights F) (x : Vec F S1x384x1024 .f32) : FVec F S384x1024 .f32 :=
  k0_pay25 (k0_pay17 x)
    (k0_pay21 W.proto (k0_pay19 W.proto x W.theta) (k0_pay20 W.proto x W.theta W.w1 W.b1 W.w2) W.b2)
    (k0_pay23 (k0_pay17 x) (k0_pay18 x W.theta) W.phi W.g)
    (k0_pay24 (k0_pay17 x) (k0_pay18 x W.theta) W.phi) W.o

/-- The second image of a grid point goes through the same operations, cut at other places. -/
theorem image_second (W : Weights F) (x : Vec F S1x384x1024 .f32) :
    k0_pay35 (k0_pay29 x) (k0_pay30 x W.theta)
        (k0_pay32 W.proto (k0_pay30 x W.theta) (constant S1024x1024 .f32 0x00000000#32) W.w1 W.b1 W.w2 W.b2)
        (k0_pay33 W.proto (k0_pay30 x W.theta) (constant S1024x1024 .f32 0x00000000#32) W.w1 W.b1 W.w2 W.b2)
        (k0_pay34 W.proto) (constant S1024x128 .f32 0x00000000#32) W.phi W.g W.o
      = image W x := rfl

/-- Image `b` of the pair a grid point loads. -/
def pick (x : Vec F S2x384x1024 .f32) (b : Fin 2) : Vec F S1x384x1024 .f32 :=
  fun j => x (ix3 b (j 1) (j 2))

/-- One image as a slab of the stack. -/
def slab (y : FVec F S384x1024 .f32) : FVec F S1x384x1024 .f32 :=
  shapeCast S1x384x1024 y shapeCasts_S384x1024_S1x384x1024

/-- A row sum added to the running sum. -/
def addSum (acc : Vec F S384x1 .f32) (y : FVec F S384x1024 .f32) : FVec F S384x1 .f32 := k0_pay1 y acc

/-- A row sum of squares added to the running sum. -/
def addSq (acc : Vec F S384x1 .f32) (y : FVec F S384x1024 .f32) : FVec F S384x1 .f32 := k0_pay2 y acc

/-- The second image's slab. -/
theorem slab_second (W : Weights F) (x : Vec F S1x384x1024 .f32) :
    k0_pay36 (k0_pay29 x) (k0_pay30 x W.theta)
        (k0_pay32 W.proto (k0_pay30 x W.theta) (constant S1024x1024 .f32 0x00000000#32) W.w1 W.b1 W.w2 W.b2)
        (k0_pay33 W.proto (k0_pay30 x W.theta) (constant S1024x1024 .f32 0x00000000#32) W.w1 W.b1 W.w2 W.b2)
        (k0_pay34 W.proto) (constant S1024x128 .f32 0x00000000#32) W.phi W.g W.o
      = slab (image W x) := rfl

/-- The first image's slab. -/
theorem slab_first (W : Weights F) (x : Vec F S1x384x1024 .f32) :
    k0_pay26 (k0_pay17 x)
        (k0_pay21 W.proto (k0_pay19 W.proto x W.theta) (k0_pay20 W.proto x W.theta W.w1 W.b1 W.w2) W.b2)
        (k0_pay23 (k0_pay17 x) (k0_pay18 x W.theta) W.phi W.g)
        (k0_pay24 (k0_pay17 x) (k0_pay18 x W.theta) W.phi) W.o
      = slab (image W x) := rfl

/-- The first image's row sums added to the running sum. -/
theorem sum_first (W : Weights F) (x : Vec F S1x384x1024 .f32) (acc : Vec F S384x1 .f32) :
    k0_pay27 (k0_pay17 x)
        (k0_pay21 W.proto (k0_pay19 W.proto x W.theta) (k0_pay20 W.proto x W.theta W.w1 W.b1 W.w2) W.b2)
        (k0_pay23 (k0_pay17 x) (k0_pay18 x W.theta) W.phi W.g)
        (k0_pay24 (k0_pay17 x) (k0_pay18 x W.theta) W.phi) W.o acc
      = addSum acc (image W x) := rfl

/-- The first image's row sums of squares added to the running sum. -/
theorem sq_first (W : Weights F) (x : Vec F S1x384x1024 .f32) (acc : Vec F S384x1 .f32) :
    k0_pay28 (k0_pay17 x)
        (k0_pay21 W.proto (k0_pay19 W.proto x W.theta) (k0_pay20 W.proto x W.theta W.w1 W.b1 W.w2) W.b2)
        (k0_pay23 (k0_pay17 x) (k0_pay18 x W.theta) W.phi W.g)
        (k0_pay24 (k0_pay17 x) (k0_pay18 x W.theta) W.phi) W.o acc
      = addSq acc (image W x) := rfl

/-- The zero the running sums start from. -/
def zero : FVec F S384x1 .f32 := k0_pay15

/-- The slab of the stack after normalisation: `slab · scale + shift`, row by row. -/
def normSlab (scale shift : FVec F S384x1 .f32) (v : Vec F S1x384x1024 .f32) : FVec F S1x384x1024 .f32 :=
  k0_pay4 scale shift v

/-- The factor of a row: `γ · rsqrt(variance + ε)` of the row's sum and sum of squares. -/
def scale (s q γ : Vec F S384x1 .f32) : FVec F S384x1 .f32 := k0_pay7 s q γ

/-- The offset of a row: `β − mean · factor`. -/
def shift (s q γ β : Vec F S384x1 .f32) : FVec F S384x1 .f32 := k0_pay8 s q γ β

/-- The payload stored over slab 0 … -/
theorem norm_slab0 (s q γ β : Vec F S384x1 .f32) (v : Vec F S1x384x1024 .f32) :
    k0_pay9 s q γ β v = normSlab (scale s q γ) (shift s q γ β) v := rfl
/-- … over slab 1 … -/
theorem norm_slab1 (s q γ β : Vec F S384x1 .f32) (v : Vec F S1x384x1024 .f32) :
    k0_pay10 s q γ β v = normSlab (scale s q γ) (shift s q γ β) v := rfl
/-- … over slab 2 … -/
theorem norm_slab2 (A B : FVec F S384x1 .f32) (v : Vec F S1x384x1024 .f32) : k0_pay11 A B v = normSlab A B v := rfl
/-- … over slab 3 … -/
theorem norm_slab3 (A B : FVec F S384x1 .f32) (v : Vec F S1x384x1024 .f32) : k0_pay12 A B v = normSlab A B v := rfl
/-- … over slab 4 … -/
theorem norm_slab4 (A B : FVec F S384x1 .f32) (v : Vec F S1x384x1024 .f32) : k0_pay13 A B v = normSlab A B v := rfl
/-- … over slab 5 … -/
theorem norm_slab5 (A B : FVec F S384x1 .f32) (v : Vec F S1x384x1024 .f32) : k0_pay3 (k0_pay14 A B v) = normSlab A B v := rfl
/-- … over slab 6 … -/
theorem norm_slab6 (A B : FVec F S384x1 .f32) (v : Vec F S1x384x1024 .f32) : k0_pay4 A B v = normSlab A B v := rfl
/-- … and over slab 7. -/
theorem norm_slab7 (A B : FVec F S384x1 .f32) (v : Vec F S1x384x1024 .f32) : k0_pay5 A B v = normSlab A B v := rfl
/-- The factor and the offset as the last slabs' payloads read them. -/
theorem scale_eq (s q γ : Vec F S384x1 .f32) : k0_pay7 s q γ = scale s q γ := rfl
theorem shift_eq (s q γ β : Vec F S384x1 .f32) : k0_pay8 s q γ β = shift s q γ β := rfl
/-- The second image's row sums added to the running sum, and of its squares. -/
theorem sum_second (y : FVec F S384x1024 .f32) (acc : Vec F S384x1 .f32) : k0_pay1 y acc = addSum acc y := rfl
theorem sq_second (y : FVec F S384x1024 .f32) (acc : Vec F S384x1 .f32) : k0_pay2 y acc = addSq acc y := rfl
/-- Both accumulators start from zero. -/
theorem zero_sum : (k0_pay15 : FVec F S384x1 .f32) = zero := rfl
theorem zero_sq : (k0_pay16 : FVec F S384x1 .f32) = zero := rfl

/-- The grid point's number. -/
def num (i : grid0.Coords) : ℕ := (i 0).val

theorem num_lt (i : grid0.Coords) : num i < 4 := (i 0).isLt

/-- The stack after grid point `n`'s two stores: images `2n` and `2n+1` in place, the rest as it was. -/
def fill (n : ℕ) (Y : Vec F S8x384x1024 .f32) (r₀ r₁ : FVec F S384x1024 .f32) : Vec F S8x384x1024 .f32 := fun j =>
  if (j 0).val = 2 * n + 1 then r₁ (ix2 (j 1) (j 2))
  else if (j 0).val = 2 * n then r₀ (ix2 (j 1) (j 2))
  else Y j

/-- The entry of a column that belongs to row `j 1` of the stack. -/
def rowOf (j : S8x384x1024.Idx) : S384x1.Idx := ix2 (j 1) 0

/-- The stack normalised in its first `k` slabs. -/
def normTo (k : ℕ) (A B : FVec F S384x1 .f32) (Y : Vec F S8x384x1024 .f32) : Vec F S8x384x1024 .f32 := fun j =>
  if (j 0).val < k then FloatOps.addf (FloatOps.mulf (Y j) (A (rowOf j))) (B (rowOf j)) else Y j

end Cert.KernelIdeal.Hand
-- ==== Proof.Stack.lean ====
module

public import proofs.«01_k».proof.Proof.Block
public import Idealize.ShloMosaic.Lib.ValueLayout
public import Idealize.ShloMosaic.Lib.VecWindow
public import Idealize.ShloMosaic.Lib.Pipeline.ValueKit

/-!
What a buffer reads after the kernel's stores: the accumulators after their last store, the stack after the two slabs
of a grid point, and the stack after each of the eight normalised slabs.
-/

@[expose] public section

set_option maxRecDepth 16384

noncomputable section

namespace Cert.KernelIdeal.Hand

open Idealize.ShloMosaic hiding ix2 ix3
open Idealize.ShloMosaic.ValueIdx Cert.KernelIdeal.Gen

variable {F : FTy → Type} [FloatOps F] [Named F]

/-- The slab loaded at offset `b` of a pair is image `b`. -/
theorem ld_pick (x : Vec F S2x384x1024 .f32) (b : Fin 2) {n : ℕ} (hn : n = b.val) (inb) :
    View.ld x (Rect.unit (s := S2x384x1024) ![n, 0, 0] ![1, 384, 1024] inb) = pick x b := by
  subst hn
  funext j
  refine congrArg x (funext fun a => ?_)
  have h : (j 0).val = 0 := Nat.lt_one_iff.mp (j 0).isLt
  fin_cases a <;> apply Fin.ext
  · show b.val + 1 * (j 0).val = b.val
    omega
  · show 0 + 1 * (j 1).val = (j 1).val
    omega
  · show 0 + 1 * (j 2).val = (j 2).val
    omega

/-- An accumulator loaded after a store of its own size gives what was stored. -/
theorem acc_cov (v : View sig .tc .vmem S384x1 .f32) (inb inb') (w : Vec F S384x1 .f32) (L : List (View.Piece (Elt F) S384x1 .f32)) :
    v.readCov (⟨Rect.unit (s := S384x1) ![0, 0] ![384, 1] inb', w⟩ :: L) (Rect.unit (s := S384x1) ![0, 0] ![384, 1] inb).toLoadRect = w :=
  View.readCov_full v inb inb' w L

/-- An accumulator read after a store of its own size is what was stored. -/
theorem acc_read (v : View sig .tc .vmem S384x1 .f32) (f) (inb') (w : Vec F S384x1 .f32) (L : List (View.Piece (Elt F) S384x1 .f32)) :
    v.read (Elt F) (v.writes (Elt F) f (⟨Rect.unit (s := S384x1) ![0, 0] ![384, 1] inb', w⟩ :: L)) = w :=
  View.read_writes_full v f inb' w L

/-- The place of an entry of the stack within its slab. -/
def at0 (j : S8x384x1024.Idx) : S1x384x1024.Idx := ix3 0 (j 1) (j 2)

/-- A slab's entry is the image's. -/
theorem slab_apply (y : FVec F S384x1024 .f32) (k : S1x384x1024.Idx) : slab y k = y (ix2 (k 1) (k 2)) := by
  rw [ValueIdx.eq_ix3 k]
  exact ValueIdx.shapeCast_ab_1ab_apply y _ _ _ _

/-- A normalised slab's entry. -/
theorem normSlab_apply (A B : FVec F S384x1 .f32) (v : Vec F S1x384x1024 .f32) (k : S1x384x1024.Idx) :
    normSlab A B v k = FloatOps.addf (FloatOps.mulf (v k) (A (ix2 (k 1) 0))) (B (ix2 (k 1) 0)) := by
  rw [ValueIdx.eq_ix3 k]
  unfold normSlab k0_pay4
  refine (ValueIdx.shapeCast_ab_1ab_apply _ _ _ _ _).trans ?_
  refine congrArg₂ FloatOps.addf (congrArg₂ FloatOps.mulf ?_ ?_) ?_
  · exact (ValueIdx.shapeCast_1ab_ab_apply v _ _ _).trans (congrArg v (funext fun a => by
      fin_cases a
      · exact Subsingleton.elim (α := Fin 1) _ _
      · rfl
      · rfl))
  all_goals
    refine broadcastTo_apply _ _ _ _ fun a => ?_
    fin_cases a <;> rfl

/-- Inside the slab last stored the stack reads what was stored. -/
theorem slab_hit (v : View sig .tc .vmem S8x384x1024 .f32) (f) {off : Fin 3 → ℕ} (inb) (w : Vec F S1x384x1024 .f32)
    (L : List (View.Piece (Elt F) S8x384x1024 .f32)) (j : S8x384x1024.Idx) {n : ℕ} (ho : off = ![n, 0, 0]) (hj : (j 0).val = n) :
    v.read (Elt F) (v.writes (Elt F) f (⟨Rect.unit (s := S8x384x1024) off S1x384x1024.size inb, w⟩ :: L)) j = w (at0 j) :=
  View.read_writes_cons_unit_of_mem v f inb w L j (at0 j) ho fun a => by
    fin_cases a
    · exact hj
    · exact (Nat.zero_add _).symm
    · exact (Nat.zero_add _).symm

/-- Outside it the stack reads as before. -/
theorem slab_miss (v : View sig .tc .vmem S8x384x1024 .f32) (f) {off : Fin 3 → ℕ} (inb) (w : Vec F S1x384x1024 .f32)
    (L : List (View.Piece (Elt F) S8x384x1024 .f32)) (j : S8x384x1024.Idx) {n : ℕ} (ho : off = ![n, 0, 0]) (hj : (j 0).val ≠ n) :
    v.read (Elt F) (v.writes (Elt F) f (⟨Rect.unit (s := S8x384x1024) off S1x384x1024.size inb, w⟩ :: L)) j
      = v.read (Elt F) (v.writes (Elt F) f L) j :=
  View.read_writes_cons_unit_of_not_mem v f inb w L j ho 0 (by
    show (j 0).val < n ∨ n + 1 ≤ (j 0).val
    omega)

/-- The stack after the two stores of grid point `i`. -/
theorem read_fill (i : grid0.Coords) (v : View sig .tc .vmem S8x384x1024 .f32) (f) (r₀ r₁ : FVec F S384x1024 .f32) :
    v.read (Elt F) (v.writes (Elt F) f
      [⟨Rect.unit (s := S8x384x1024) (k0_off1 i 1#32) S1x384x1024.size (k0_off1_inb i 1), slab r₁⟩,
       ⟨Rect.unit (s := S8x384x1024) (k0_off1 i 0#32) S1x384x1024.size (k0_off1_inb i 0), slab r₀⟩])
      = fill (num i) (v.read (Elt F) f) r₀ r₁ := by
  funext j
  have o1 : k0_off1 i 1#32 = ![2 * num i + 1, 0, 0] := k0_off1_eq i 1
  have o0 : k0_off1 i 0#32 = ![2 * num i, 0, 0] := k0_off1_eq i 0
  unfold fill
  by_cases h1 : (j 0).val = 2 * num i + 1
  · exact ((slab_hit v f _ _ _ j o1 h1).trans (slab_apply r₁ _)).trans (if_pos h1).symm
  · refine (slab_miss v f _ _ _ j o1 h1).trans ?_
    rw [if_neg h1]
    by_cases h0 : (j 0).val = 2 * num i
    · exact ((slab_hit v f _ _ _ j o0 h0).trans (slab_apply r₀ _)).trans (if_pos h0).symm
    · exact (slab_miss v f _ _ _ j o0 h0).trans (if_neg h0).symm

/-- One more slab normalised: of a stack normalised in its first `k` slabs, slab `k` is loaded, normalised and stored. -/
theorem read_norm_step (v : View sig .tc .vmem S8x384x1024 .f32) (f) (A B : FVec F S384x1 .f32) (Y : Vec F S8x384x1024 .f32)
    (L : List (View.Piece (Elt F) S8x384x1024 .f32)) (k : ℕ) (inb)
    (h : v.read (Elt F) (v.writes (Elt F) f L) = normTo k A B Y) :
    v.read (Elt F) (v.writes (Elt F) f
      (⟨Rect.unit (s := S8x384x1024) ![k, 0, 0] S1x384x1024.size inb,
        normSlab A B (View.ld (v.read (Elt F) (v.writes (Elt F) f L)) (Rect.unit (s := S8x384x1024) ![k, 0, 0] S1x384x1024.size inb))⟩ :: L))
      = normTo (k + 1) A B Y := by
  funext j
  by_cases hj : (j 0).val = k
  · refine (slab_hit v f _ _ _ j rfl hj).trans ((normSlab_apply A B _ _).trans ?_)
    have e : (Rect.unit (s := S8x384x1024) ![k, 0, 0] S1x384x1024.size inb).emb (at0 j) = j := by
      funext a
      fin_cases a <;> apply Fin.ext
      · exact (Nat.add_zero k).trans hj.symm
      · exact (Nat.zero_add _).trans (Nat.one_mul _)
      · exact (Nat.zero_add _).trans (Nat.one_mul _)
    have e' : View.ld (v.read (Elt F) (v.writes (Elt F) f L)) (Rect.unit (s := S8x384x1024) ![k, 0, 0] S1x384x1024.size inb) (at0 j) = Y j :=
      ((congrFun h _).trans (congrArg (normTo k A B Y) e)).trans (if_neg (by omega))
    rw [e']
    exact (if_pos (by omega)).symm
  · refine (slab_miss v f _ _ _ j rfl hj).trans ((congrFun h j).trans ?_)
    unfold normTo
    by_cases hk : (j 0).val < k
    · rw [if_pos hk, if_pos (by omega)]
    · rw [if_neg hk, if_neg (by omega)]

/-- No slab normalised yet. -/
theorem normTo_zero (A B : FVec F S384x1 .f32) (Y : Vec F S8x384x1024 .f32) : normTo 0 A B Y = Y :=
  funext fun j => if_neg (Nat.not_lt_zero _)

end Cert.KernelIdeal.Hand
-- ==== Proof.Body.lean ====
module

public import proofs.«01_k».proof.Proof.Stack
public import Idealize.ShloMosaic.Lib.Tactic
public import Idealize.ShloMosaic.Lib.WordCmp
public import Idealize.ShloMosaic.Lib.Ring

/-!
The kernel's body, run at a grid point on whole buffers: at the first point it zeroes the two accumulators, at every
point it stores two images into the stack and adds their row sums and row sums of squares, at the last point it
normalises the whole stack.
-/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The body's test for the first grid point. -/
abbrev First (i : grid0.Coords) : Prop :=
  (Scalar.cmpi .ne (Scalar.extui (Scalar.cmpi .eq (BitVec.ofNat 32 (i 0).val) 0#32)) 0#32) = 1#1
/-- The body's test for the last grid point. -/
abbrev Final (i : grid0.Coords) : Prop :=
  (Scalar.cmpi .ne (Scalar.extui (Scalar.cmpi .eq (BitVec.ofNat 32 (i 0).val) 3#32)) 0#32) = 1#1

/-- Both images of a grid point added to a running sum. -/
def sumAfter (W : Weights F) (x : Vec F S2x384x1024 .f32) (s : Vec F S384x1 .f32) : Vec F S384x1 .f32 :=
  addSum (addSum s (image W (pick x 0))) (image W (pick x 1))
/-- Both images of a grid point added to a running sum of squares. -/
def sqAfter (W : Weights F) (x : Vec F S2x384x1024 .f32) (q : Vec F S384x1 .f32) : Vec F S384x1 .f32 :=
  addSq (addSq q (image W (pick x 0))) (image W (pick x 1))
/-- The stack with both images of grid point `n` in place. -/
def stackAfter (W : Weights F) (x : Vec F S2x384x1024 .f32) (n : ℕ) (Y : Vec F S8x384x1024 .f32) : Vec F S8x384x1024 .f32 :=
  fill n Y (image W (pick x 0)) (image W (pick x 1))

variable (c : Dev nD) (i : grid0.Coords)
  {arg1 : Memref sig .tc .vmem S2x384x1024 .f32} (harg1 : arg1.IsWhole)
  {arg2 : Memref sig .tc .vmem S128x384 .f32} (harg2 : arg2.IsWhole)
  {arg3 : Memref sig .tc .vmem S128x384 .f32} (harg3 : arg3.IsWhole)
  {arg4 : Memref sig .tc .vmem S128x384 .f32} (harg4 : arg4.IsWhole)
  {arg5 : Memref sig .tc .vmem S384x128 .f32} (harg5 : arg5.IsWhole)
  {arg6 : Memref sig .tc .vmem S256x1024 .f32} (harg6 : arg6.IsWhole)
  {arg7 : Memref sig .tc .vmem S1x256 .f32} (harg7 : arg7.IsWhole)
  {arg8 : Memref sig .tc .vmem S1024x256 .f32} (harg8 : arg8.IsWhole)
  {arg9 : Memref sig .tc .vmem S1x1024 .f32} (harg9 : arg9.IsWhole)
  {arg10 : Memref sig .tc .vmem S128x1024 .f32} (harg10 : arg10.IsWhole)
  {arg11 : Memref sig .tc .vmem S384x1 .f32} (harg11 : arg11.IsWhole)
  {arg12 : Memref sig .tc .vmem S384x1 .f32} (harg12 : arg12.IsWhole)
  {arg13 : Memref sig .tc .vmem S8x384x1024 .f32} (harg13 : arg13.IsWhole)
  {arg14 : Memref sig .tc .vmem S384x1 .f32} (harg14 : arg14.IsWhole)
  {arg15 : Memref sig .tc .vmem S384x1 .f32} (harg15 : arg15.IsWhole)

/-- The buffers the body only reads, with their contents. -/
def Reads (arg1 : Memref sig .tc .vmem S2x384x1024 .f32) (arg2 arg3 arg4 : Memref sig .tc .vmem S128x384 .f32)
    (arg5 : Memref sig .tc .vmem S384x128 .f32) (arg6 : Memref sig .tc .vmem S256x1024 .f32)
    (arg7 : Memref sig .tc .vmem S1x256 .f32) (arg8 : Memref sig .tc .vmem S1024x256 .f32)
    (arg9 : Memref sig .tc .vmem S1x1024 .f32) (arg10 : Memref sig .tc .vmem S128x1024 .f32)
    (arg11 arg12 : Memref sig .tc .vmem S384x1 .f32)
    (x : Vec F S2x384x1024 .f32) (W : Weights F) (γ β : Vec F S384x1 .f32) : sProp 𝕄 :=
  iprop(owns (c : Thread nD τ) arg1 fullShare x ∗ owns (c : Thread nD τ) arg2 fullShare W.theta
    ∗ owns (c : Thread nD τ) arg3 fullShare W.phi ∗ owns (c : Thread nD τ) arg4 fullShare W.g
    ∗ owns (c : Thread nD τ) arg5 fullShare W.o ∗ owns (c : Thread nD τ) arg6 fullShare W.w1
    ∗ owns (c : Thread nD τ) arg7 fullShare W.b1 ∗ owns (c : Thread nD τ) arg8 fullShare W.w2
    ∗ owns (c : Thread nD τ) arg9 fullShare W.b2 ∗ owns (c : Thread nD τ) arg10 fullShare W.proto
    ∗ owns (c : Thread nD τ) arg11 fullShare γ ∗ owns (c : Thread nD τ) arg12 fullShare β)

/-- A buffer holding any contents that read `x` is owned at `x`. -/
theorem owns_read {s : Shape} {a : Memref sig .tc .vmem s .f32} {f} {x : Vec F s .f32} (h : a.view.read (Elt F) f = x) :
    (a.view.loc (c : Thread nD τ) ↦[a.view.set]{fullShare} f : sProp 𝕄) ⊢ owns (c : Thread nD τ) a fullShare x := by
  unfold owns
  iintro H
  iexists _
  isplitr
  · ipureintro; exact h
  iexact H

/-- Owning a whole buffer at `x` is holding the one contents that read `x`. -/
theorem owns_whole {s : Shape} {a : Memref sig .tc .vmem s .f32} (h : a.IsWhole) (x : Vec F s .f32) :
    owns (c : Thread nD τ) a fullShare x = (a.view.loc (c : Thread nD τ) ↦[a.view.set]{fullShare} h.unread x : sProp 𝕄) := by
  have e : owns (c : Thread nD τ) a fullShare x ⊢ (a.view.loc (c : Thread nD τ) ↦[a.view.set]{fullShare} h.unread x : sProp 𝕄) := by
    unfold owns
    iintro ⟨%f, %hf, H⟩
    obtain rfl := h.eq_unread hf
    iexact H
  exact Entails.antisymm e (owns_read c (h.read_unread x))

variable (x : Vec F S2x384x1024 .f32) (W : Weights F) (γ β : Vec F S384x1 .f32) (Y : Vec F S8x384x1024 .f32) (s q : Vec F S384x1 .f32)

theorem hz : (![0, 0] : Fin 2 → Nat) = fun _ => 0 := funext fun a => by fin_cases a <;> rfl

set_option maxHeartbeats 1000000 in
set_option backward.isDefEq.respectTransparency false in
/-- The first grid point: the accumulators start from zero, whatever they held. -/
theorem body_first (h0 : First i) (h1 : ¬Final i) (E : Set ℕ) (K : PUnit → sProp 𝕄) :
    iprop(Reads c arg1 arg2 arg3 arg4 arg5 arg6 arg7 arg8 arg9 arg10 arg11 arg12 x W γ β
        ∗ owns (c : Thread nD τ) arg13 fullShare Y ∗ owns (c : Thread nD τ) arg14 fullShare s ∗ owns (c : Thread nD τ) arg15 fullShare q
        ∗ (iprop(Reads c arg1 arg2 arg3 arg4 arg5 arg6 arg7 arg8 arg9 arg10 arg11 arg12 x W γ β
            ∗ owns (c : Thread nD τ) arg13 fullShare (stackAfter W x (num i) Y)
            ∗ owns (c : Thread nD τ) arg14 fullShare (sumAfter W x zero) ∗ owns (c : Thread nD τ) arg15 fullShare (sqAfter W x zero)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  simp only [k0_part3_eq_skeleton, k0_part4_eq_skeleton, k0_part5_eq_skeleton, k0_part6_eq_skeleton, k0_part7_eq_skeleton]
  unfold Reads
  rw [owns_whole c harg1, owns_whole c harg2, owns_whole c harg3, owns_whole c harg4, owns_whole c harg5, owns_whole c harg6,
    owns_whole c harg7, owns_whole c harg8, owns_whole c harg9, owns_whole c harg10, owns_whole c harg11, owns_whole c harg12,
    owns_whole c harg13 Y, owns_whole c harg14 s, owns_whole c harg15 q]
  iintro ⟨⟨H1, H2, H3, H4, H5, H6, H7, H8, H9, H10, H11, H12⟩, H13, H14, H15, Hk⟩
  sl_exec (disch := first | sl_exact h0 | sl_exact h1)
  sl_step
  iapply Hk
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · iapply owns_read
    rotate_left
    · iexact H13
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    exact (read_fill i arg13.view _ _ _).trans
      (congrArg (fun V => fill (num i) V (image W (pick x 0)) (image W (pick x 1))) (harg13.read_unread Y))
  isplitl [H14]
  · iapply owns_read
    rotate_left
    · iexact H14
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    exact acc_read _ _ _ _ _
  · iapply owns_read
    rotate_left
    · iexact H15
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    exact acc_read _ _ _ _ _

set_option maxHeartbeats 1000000 in
set_option backward.isDefEq.respectTransparency false in
/-- A grid point that is neither the first nor the last. -/
theorem body_middle (h0 : ¬First i) (h1 : ¬Final i) (E : Set ℕ) (K : PUnit → sProp 𝕄) :
    iprop(Reads c arg1 arg2 arg3 arg4 arg5 arg6 arg7 arg8 arg9 arg10 arg11 arg12 x W γ β
        ∗ owns (c : Thread nD τ) arg13 fullShare Y ∗ owns (c : Thread nD τ) arg14 fullShare s ∗ owns (c : Thread nD τ) arg15 fullShare q
        ∗ (iprop(Reads c arg1 arg2 arg3 arg4 arg5 arg6 arg7 arg8 arg9 arg10 arg11 arg12 x W γ β
            ∗ owns (c : Thread nD τ) arg13 fullShare (stackAfter W x (num i) Y)
            ∗ owns (c : Thread nD τ) arg14 fullShare (sumAfter W x s) ∗ owns (c : Thread nD τ) arg15 fullShare (sqAfter W x q)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  simp only [k0_part3_eq_skeleton, k0_part4_eq_skeleton, k0_part5_eq_skeleton, k0_part6_eq_skeleton, k0_part7_eq_skeleton]
  unfold Reads
  rw [owns_whole c harg1, owns_whole c harg2, owns_whole c harg3, owns_whole c harg4, owns_whole c harg5, owns_whole c harg6,
    owns_whole c harg7, owns_whole c harg8, owns_whole c harg9, owns_whole c harg10, owns_whole c harg11, owns_whole c harg12,
    owns_whole c harg13 Y, owns_whole c harg14 s, owns_whole c harg15 q]
  iintro ⟨⟨H1, H2, H3, H4, H5, H6, H7, H8, H9, H10, H11, H12⟩, H13, H14, H15, Hk⟩
  sl_exec (disch := first | sl_exact h0 | sl_exact h1)
  sl_step
  iapply Hk
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · iapply owns_read
    rotate_left
    · iexact H13
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    exact (read_fill i arg13.view _ _ _).trans
      (congrArg (fun V => fill (num i) V (image W (pick x 0)) (image W (pick x 1))) (harg13.read_unread Y))
  isplitl [H14]
  · iapply owns_read
    rotate_left
    · iexact H14
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    exact acc_read _ _ _ _ _
  · iapply owns_read
    rotate_left
    · iexact H15
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    exact acc_read _ _ _ _ _

set_option maxHeartbeats 1000000 in
set_option backward.isDefEq.respectTransparency false in
/-- The last grid point: after its two images the stack is normalised. -/
theorem body_last (h0 : ¬First i) (h1 : Final i) (E : Set ℕ) (K : PUnit → sProp 𝕄) :
    iprop(Reads c arg1 arg2 arg3 arg4 arg5 arg6 arg7 arg8 arg9 arg10 arg11 arg12 x W γ β
        ∗ owns (c : Thread nD τ) arg13 fullShare Y ∗ owns (c : Thread nD τ) arg14 fullShare s ∗ owns (c : Thread nD τ) arg15 fullShare q
        ∗ (iprop(Reads c arg1 arg2 arg3 arg4 arg5 arg6 arg7 arg8 arg9 arg10 arg11 arg12 x W γ β
            ∗ owns (c : Thread nD τ) arg13 fullShare (normTo 8 (scale (sumAfter W x s) (sqAfter W x q) γ) (shift (sumAfter W x s) (sqAfter W x q) γ β) (stackAfter W x (num i) Y))
            ∗ owns (c : Thread nD τ) arg14 fullShare (sumAfter W x s) ∗ owns (c : Thread nD τ) arg15 fullShare (sqAfter W x q)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton]
  unfold Reads
  rw [owns_whole c harg1, owns_whole c harg2, owns_whole c harg3, owns_whole c harg4, owns_whole c harg5, owns_whole c harg6,
    owns_whole c harg7, owns_whole c harg8, owns_whole c harg9, owns_whole c harg10, owns_whole c harg11, owns_whole c harg12,
    owns_whole c harg13 Y, owns_whole c harg14 s, owns_whole c harg15 q]
  iintro ⟨⟨H1, H2, H3, H4, H5, H6, H7, H8, H9, H10, H11, H12⟩, H13, H14, H15, Hk⟩
  sl_exec (disch := first | sl_exact h0 | sl_exact h1)
  sl_step
  iapply Hk
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]
  · iapply owns_read
    rotate_left
    · iexact H13
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    simp only [norm_slab0, norm_slab1, norm_slab2, norm_slab3, norm_slab4, norm_slab5, norm_slab6, norm_slab7, scale_eq, shift_eq]
    have hf := (read_fill i arg13.view (harg13.unread Y) (image W (pick x 0)) (image W (pick x 1))).trans
      (congrArg (fun V => fill (num i) V (image W (pick x 0)) (image W (pick x 1))) (harg13.read_unread Y))
    have hs := fun L k inb => read_norm_step arg13.view (harg13.unread Y) (scale (sumAfter W x s) (sqAfter W x q) γ)
      (shift (sumAfter W x s) (sqAfter W x q) γ β) (stackAfter W x (num i) Y) L k inb
    exact hs _ 7 _ (hs _ 6 _ (hs _ 5 _ (hs _ 4 _ (hs _ 3 _ (hs _ 2 _ (hs _ 1 _ (hs _ 0 _ (hf.trans (normTo_zero _ _ _).symm))))))))
  isplitl [H14]
  · iapply owns_read
    rotate_left
    · iexact H14
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    exact acc_read _ _ _ _ _
  · iapply owns_read
    rotate_left
    · iexact H15
    sl_unfold_words
    simp only [View.readAt_eq_ld, harg1.read_unread, harg2.read_unread, harg3.read_unread, harg4.read_unread, harg5.read_unread,
      harg6.read_unread, harg7.read_unread, harg8.read_unread, harg9.read_unread, harg10.read_unread, harg11.read_unread,
      harg12.read_unread, harg14.read_unread, harg15.read_unread]
    simp only [View.ld_unit_zero (S := S128x384) hz, View.ld_unit_zero (S := S384x128) hz, View.ld_unit_zero (S := S256x1024) hz, View.ld_unit_zero (S := S1x256) hz,
      View.ld_unit_zero (S := S1024x256) hz, View.ld_unit_zero (S := S1x1024) hz, View.ld_unit_zero (S := S128x1024) hz,
      View.ld_unit_zero (S := S384x1) hz]
    have p0 : View.ld x (Rect.unit (s := S2x384x1024) ![0, 0, 0] S1x384x1024.size inb_S2x384x1024_S1x384x1024_0_0_0) = pick x 0 := ld_pick x 0 rfl _
    have p1 : View.ld x (Rect.unit (s := S2x384x1024) ![1, 0, 0] S1x384x1024.size inb_S2x384x1024_S1x384x1024_1_0_0) = pick x 1 := ld_pick x 1 rfl _
    simp only [p0, p1]
    simp only [acc_cov, image_second, slab_first, slab_second,
      sum_first, sq_first, sum_second, sq_second, zero_sum, zero_sq]
    exact acc_read _ _ _ _ _

end Cert.KernelIdeal.Hand
-- ==== Proof.Points.lean ====
module

public import proofs.«01_k».proof.Proof.Body
public import proofs.«01_k».proof.Proof.Gen.KernelIdeal.Frame
public import Idealize.ShloMosaic.Lib.Pipeline.DatRel

/-!
What the four grid points leave behind, in plain terms: the two running sums after each point, and the stack of images,
filled two at a time and normalised at the end.
-/

@[expose] public section

set_option maxRecDepth 16384

noncomputable section

namespace Cert.KernelIdeal.Hand

open Idealize.ShloMosaic hiding ix2 ix3
open Idealize.ShloMosaic.ValueIdx
open Idealize.ShloMosaic.TcCoe Idealize.ShloMosaic.Tactic
open Cert.KernelIdeal.Gen

variable {F : FTy → Type} [FloatOps F] [Named F]
variable (m : (ℓ : Loc nD τ sig) → Buf (Elt F) ℓ) (c : Dev nD)

/-- The weights as grid point `t` finds them. -/
def wts (t : Fin cfg0.N) : Weights F :=
  ⟨iblk m c 1 t, iblk m c 2 t, iblk m c 3 t, iblk m c 4 t, iblk m c 5 t, iblk m c 6 t, iblk m c 7 t, iblk m c 8 t, iblk m c 9 t⟩
/-- The pair of images grid point `t` finds. -/
def pair (t : Fin cfg0.N) : Vec F S2x384x1024 .f32 := iblk m c 0 t
/-- The batch norm's gain as grid point `t` finds it. -/
def gain (t : Fin cfg0.N) : Vec F S384x1 .f32 := iblk m c 10 t
/-- The batch norm's offset as grid point `t` finds it. -/
def offset (t : Fin cfg0.N) : Vec F S384x1 .f32 := iblk m c 11 t

/-- The last grid point. -/
def lastPt : Fin cfg0.N := ⟨3, by rw [show cfg0.N = 4 from N_0]; decide⟩

theorem pt_lt (t : Fin cfg0.N) : t.val < 4 := lt_of_lt_of_eq t.isLt (show cfg0.N = 4 from N_0)

/-- The running sum and the running sum of squares after the first `n` grid points. -/
def sums : ℕ → Vec F S384x1 .f32 × Vec F S384x1 .f32
  | 0 => (zero, zero)
  | n + 1 => if h : n < cfg0.N then
      (sumAfter (wts m c ⟨n, h⟩) (pair m c ⟨n, h⟩) (sums n).1, sqAfter (wts m c ⟨n, h⟩) (pair m c ⟨n, h⟩) (sums n).2)
    else sums n

theorem sums_succ (t : Fin cfg0.N) : sums m c (t.val + 1)
    = (sumAfter (wts m c t) (pair m c t) (sums m c t.val).1, sqAfter (wts m c t) (pair m c t) (sums m c t.val).2) :=
  dif_pos t.isLt

/-- The grid point at which image `b` is computed. -/
def ptOf (b : Fin 8) : Fin cfg0.N := ⟨b.val / 2, by rw [show cfg0.N = 4 from N_0]; omega⟩
/-- The place of image `b` in its pair. -/
def slotOf (b : Fin 8) : Fin 2 := ⟨b.val % 2, by omega⟩

/-- Image `b` before normalisation. -/
def img (b : Fin 8) : Vec F S384x1024 .f32 := image (wts m c (ptOf b)) (pick (pair m c (ptOf b)) (slotOf b))
/-- The full stack before normalisation. -/
def stack : Vec F S8x384x1024 .f32 := fun j => img m c (j 0) (ix2 (j 1) (j 2))

/-- The stack's first `n` pairs are in place. -/
def Held (n : ℕ) (X : Vec F S8x384x1024 .f32) : Prop := ∀ j : S8x384x1024.Idx, (j 0).val < 2 * n → X j = stack m c j

/-- The normalised stack. -/
def result : Vec F S8x384x1024 .f32 :=
  normTo 8 (scale (sums m c 4).1 (sums m c 4).2 (gain m c lastPt))
    (shift (sums m c 4).1 (sums m c 4).2 (gain m c lastPt) (offset m c lastPt)) (stack m c)

/-- What the output buffer holds after grid point `t`. -/
def Leaves (t : Fin cfg0.N) (X : Vec F S8x384x1024 .f32) : Prop :=
  if t.val = 3 then X = result m c else Held m c (t.val + 1) X

variable {m c}

/-- A grid point's two stores put its pair in place. -/
theorem held_step (t : Fin cfg0.N) {Y : Vec F S8x384x1024 .f32} (h : Held m c t.val Y) :
    Held m c (t.val + 1) (stackAfter (wts m c t) (pair m c t) t.val Y) := by
  intro j hj
  have e : ∀ b : Fin 2, (j 0).val = 2 * t.val + b.val →
      image (wts m c t) (pick (pair m c t) b) (ix2 (j 1) (j 2)) = stack m c j := by
    intro b hb
    have e1 : ptOf (j 0) = t := Fin.ext (by show (j 0).val / 2 = t.val; omega)
    have e2 : slotOf (j 0) = b := Fin.ext (by show (j 0).val % 2 = b.val; omega)
    unfold stack img
    rw [e1, e2]
  unfold stackAfter fill
  by_cases h1 : (j 0).val = 2 * t.val + 1
  · exact (if_pos h1).trans (e 1 h1)
  · by_cases h0 : (j 0).val = 2 * t.val
    · exact (if_neg h1).trans ((if_pos h0).trans (e 0 h0))
    · exact (if_neg h1).trans ((if_neg h0).trans (h j (by omega)))

/-- With four pairs in place the stack is full. -/
theorem held_full {X : Vec F S8x384x1024 .f32} (h : Held m c 4 X) : X = stack m c :=
  funext fun j => h j (lt_of_lt_of_eq (j 0).isLt rfl)

theorem held_zero (X : Vec F S8x384x1024 .f32) : Held m c 0 X := fun _ hj => absurd hj (by omega)

/-- The kernel's test for the first grid point, in terms of the point's number. -/
theorem first_iff (t : Fin cfg0.N) : First (grid0.coords t) ↔ t.val = 0 := by
  have ht := pt_lt t
  have e0 : (grid0.coords t 0).val = t.val / 1 % 4 := Pipeline.Grid.coords_val t 0 (by decide) rfl
  have h : First (grid0.coords t) ↔ t.val % 4 = 0 := by
    simp only [First, e0]
    word_cmp
  rw [h]; omega
/-- The kernel's test for the last grid point, in terms of the point's number. -/
theorem final_iff (t : Fin cfg0.N) : Final (grid0.coords t) ↔ t.val = 3 := by
  have ht := pt_lt t
  have e0 : (grid0.coords t 0).val = t.val / 1 % 4 := Pipeline.Grid.coords_val t 0 (by decide) rfl
  have h : Final (grid0.coords t) ↔ t.val % 4 = 3 := by
    simp only [Final, e0]
    word_cmp
  rw [h]; omega
theorem num_coords (t : Fin cfg0.N) : num (grid0.coords t) = t.val := by
  have ht := pt_lt t
  have e0 : (grid0.coords t 0).val = t.val / 1 % 4 := Pipeline.Grid.coords_val t 0 (by decide) rfl
  unfold num
  rw [e0]; omega

end Cert.KernelIdeal.Hand
-- ==== Proof.Obligation.lean ====
module

public import proofs.«01_k».proof.Proof.Points

/-!
The pipeline's proof data and its body obligation: between grid points the two accumulators hold the running sums, and
the output buffer the images computed so far.
-/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The accumulator of sums and the accumulator of squares, whole. -/
abbrev accSum : Memref sig .tc .vmem S384x1 .f32 := Memref.whole cc0_scratch0
abbrev accSq : Memref sig .tc .vmem S384x1 .f32 := Memref.whole cc0_scratch1

/-- The class's invariant: both accumulators at anything, and the generator register at some state. -/
theorem PhiA_eq (c : Dev nD) :
    (Pipeline.ΦA spec0 c : sProp 𝕄)
      = iprop(iprop((∃ d, owns (c : Thread nD τ) accSum fullShare d) ∗ (∃ d, owns (c : Thread nD τ) accSq fullShare d)) ∗ (∃ r, prngReg c r)) := by
  unfold Pipeline.ΦA; rw [scopedRest0_eq]; simp only [accSum, accSq, Idealize.ShloMosaic.owns_whole]; try rfl

/-- The invariant before grid point `n`: before the first the accumulators hold anything, later the running sums. -/
def Inv (c : Dev nD) : (n : ℕ) → sProp 𝕄
  | 0 => Pipeline.ΦA spec0 c
  | n + 1 => iprop(iprop(owns (c : Thread nD τ) accSum fullShare (sums m c (n + 1)).1
      ∗ owns (c : Thread nD τ) accSq fullShare (sums m c (n + 1)).2) ∗ (∃ r, prngReg c r))

theorem Inv_zero (c : Dev nD) (n : ℕ) (h : n = 0) : Inv m c n = Pipeline.ΦA spec0 c := by subst h; rfl
theorem Inv_pos (c : Dev nD) (n : ℕ) (h : n ≠ 0) : Inv m c n
    = iprop(iprop(owns (c : Thread nD τ) accSum fullShare (sums m c n).1
      ∗ owns (c : Thread nD τ) accSq fullShare (sums m c n).2) ∗ (∃ r, prngReg c r)) := by
  cases n with
  | zero => exact absurd rfl h
  | succ n => rfl

/-- The window whose contents are described by a property: the output's. -/
def marked : Fin 13 → Bool := fun w => w.val == 12

/-- The property: the output buffer after a point holds what `Leaves` says. -/
def Rel (c : Dev nD) (w : Fin cfg0.W) (t : Fin cfg0.N) (X : (cfg0.win w).block.Idx → Elt F (cfg0.win w).elt) : Prop :=
  match w, X with
  | ⟨12, _⟩, X => Leaves m c t X
  | _, _ => True

/-- The proof data: the arrays as the region finds them, every input's buffer left at its block, the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
  Φ t := Inv m c t.val
  q _ := fullShare
  owed _ := 0

theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Inv m c t.val := by
  dsimp only [dats]; exact Pipeline.Dat.Φ_castSucc (fun n _ => Inv m c n) t
theorem Phi_succ (c : Dev nD) (t : Fin cfg0.N) : (dats m 0 c).Φ t.succ = Inv m c (t.val + 1) := rfl

/-- A point finds in the output buffer the pairs of the points before it. -/
theorem finds_held (c : Dev nD) (t : Fin cfg0.N) (Y : (cfg0.win 12).block.Idx → Elt F (cfg0.win 12).elt)
    (h : ((dats m 0 c).toRRel marked (Rel m c)).Finds 12 t Y) : Held m c t.val Y := by
  have ht := pt_lt t
  by_cases hz : t.val = 0
  · rw [hz]; exact held_zero Y
  · rcases (((dats m 0 c).toRRel marked (Rel m c)).finds_of_pos (w := 12) rfl hz Y).mp h with hf | hl
    · have h3 : (t.val - 1) % 4 = 3 := (flush0_12 _).mp hf
      omega
    · have hr : Leaves m c ⟨t.val - 1, Nat.lt_of_le_of_lt (Nat.sub_le _ _) t.isLt⟩ Y :=
        Pipeline.Dat.toRRel_leaves (dats m 0 c) (w := 12) rfl hl
      have hh := (if_neg (show ¬(t.val - 1 = 3) by omega)).mp hr
      have e : t.val - 1 + 1 = t.val := by omega
      exact e ▸ hh
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-- The inputs' buffers at grid point `t`, at their blocks. -/
def Inputs (c : Dev nD) (t : Fin cfg0.N) : sProp 𝕄 :=
  Reads c (st0_0 t) (st0_1 t) (st0_2 t) (st0_3 t) (st0_4 t) (st0_5 t) (st0_6 t) (st0_7 t) (st0_8 t) (st0_9 t) (st0_10 t) (st0_11 t)
    (pair m c t) (wts m c t) (gain m c t) (offset m c t)

/-- The body at grid point `t` between what the invariant and the output's property say before and after it. -/
theorem body_at (c : Dev nD) (t : Fin cfg0.N) (Y : Vec F S8x384x1024 .f32) (hY : Held m c t.val Y) (K : PUnit → sProp 𝕄) :
    iprop(Inputs m c t ∗ owns (c : Thread nD τ) (st0_12 t) fullShare Y ∗ Inv m c t.val
        ∗ (iprop(Inputs m c t ∗ (∃ X, ⌜Leaves m c t X⌝ ∗ owns (c : Thread nD τ) (st0_12 t) fullShare X) ∗ Inv m c (t.val + 1)) -∗ K ⟨⟩))
      ⊢ wp frame (wpE (defs₀ (F := F)) Variants.none c none) Set.univ (bodyAt0 t) K := by
  have ht := pt_lt t
  have hstep : Held m c (t.val + 1) (stackAfter (wts m c t) (pair m c t) (num (grid0.coords t)) Y) :=
    (num_coords t).symm ▸ held_step t hY
  have hs := sums_succ m c t
  unfold Inputs bodyAt0
  rw [Inv_pos m c (t.val + 1) (Nat.succ_ne_zero _), hs]
  by_cases hz : t.val = 0
  · have h3 : ¬t.val = 3 := by omega
    rw [Inv_zero m c _ hz, PhiA_eq]
    have hs0 : sums m c t.val = (zero, zero) := by rw [hz]; rfl
    rw [hs0]
    iintro ⟨HR, HY, ⟨⟨⟨%s, HS⟩, ⟨%q, HQ⟩⟩, Hg⟩, Hk⟩
    iapply (body_first c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (Memref.isWhole_whole _) (Memref.isWhole_whole _)
      (pair m c t) (wts m c t) (gain m c t) (offset m c t) Y s q ((first_iff t).mpr hz) (fun h => h3 ((final_iff t).mp h)))
    isplitl [HR]; · iexact HR
    isplitl [HY]; · iexact HY
    isplitl [HS]; · iexact HS
    isplitl [HQ]; · iexact HQ
    iintro ⟨HR, HY, HS, HQ⟩
    iapply Hk
    isplitl [HR]; · iexact HR
    isplitl [HY]
    · iexists (stackAfter (wts m c t) (pair m c t) (num (grid0.coords t)) Y)
      isplitr
      · ipureintro; exact (if_neg h3).mpr hstep
      iexact HY
    isplitl [HS HQ]
    · isplitl [HS]; · iexact HS
      iexact HQ
    iexact Hg
  · rw [Inv_pos m c _ hz]
    by_cases h3 : t.val = 3
    · have et : t = lastPt := Fin.ext h3
      have hlast : Leaves m c t (normTo 8 (scale (sumAfter (wts m c t) (pair m c t) (sums m c t.val).1) (sqAfter (wts m c t) (pair m c t) (sums m c t.val).2) (gain m c t))
          (shift (sumAfter (wts m c t) (pair m c t) (sums m c t.val).1) (sqAfter (wts m c t) (pair m c t) (sums m c t.val).2) (gain m c t) (offset m c t))
          (stackAfter (wts m c t) (pair m c t) (num (grid0.coords t)) Y)) := by
        refine (if_pos h3).mpr ?_
        have hf : stackAfter (wts m c t) (pair m c t) (num (grid0.coords t)) Y = stack m c :=
          held_full ((show t.val + 1 = 4 by omega) ▸ hstep)
        have h4 : sums m c 4 = _ := (congrArg (sums m c) (show 4 = t.val + 1 by omega)).trans hs
        rw [hf]
        unfold result
        rw [h4, ← et]
      iintro ⟨HR, HY, ⟨⟨HS, HQ⟩, Hg⟩, Hk⟩
      iapply (body_last c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (Memref.isWhole_whole _) (Memref.isWhole_whole _)
        (pair m c t) (wts m c t) (gain m c t) (offset m c t) Y (sums m c t.val).1 (sums m c t.val).2 (fun h => hz ((first_iff t).mp h)) ((final_iff t).mpr h3))
      isplitl [HR]; · iexact HR
      isplitl [HY]; · iexact HY
      isplitl [HS]; · iexact HS
      isplitl [HQ]; · iexact HQ
      iintro ⟨HR, HY, HS, HQ⟩
      iapply Hk
      isplitl [HR]; · iexact HR
      isplitl [HY]
      · iexists (normTo 8 (scale (sumAfter (wts m c t) (pair m c t) (sums m c t.val).1) (sqAfter (wts m c t) (pair m c t) (sums m c t.val).2) (gain m c t))
            (shift (sumAfter (wts m c t) (pair m c t) (sums m c t.val).1) (sqAfter (wts m c t) (pair m c t) (sums m c t.val).2) (gain m c t) (offset m c t))
            (stackAfter (wts m c t) (pair m c t) (num (grid0.coords t)) Y))
        isplitr
        · ipureintro; exact hlast
        iexact HY
      isplitl [HS HQ]
      · isplitl [HS]; · iexact HS
        iexact HQ
      iexact Hg
    · iintro ⟨HR, HY, ⟨⟨HS, HQ⟩, Hg⟩, Hk⟩
      iapply (body_middle c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (Memref.isWhole_whole _) (Memref.isWhole_whole _)
        (pair m c t) (wts m c t) (gain m c t) (offset m c t) Y (sums m c t.val).1 (sums m c t.val).2 (fun h => hz ((first_iff t).mp h)) (fun h => h3 ((final_iff t).mp h)))
      isplitl [HR]; · iexact HR
      isplitl [HY]; · iexact HY
      isplitl [HS]; · iexact HS
      isplitl [HQ]; · iexact HQ
      iintro ⟨HR, HY, HS, HQ⟩
      iapply Hk
      isplitl [HR]; · iexact HR
      isplitl [HY]
      · iexists (stackAfter (wts m c t) (pair m c t) (num (grid0.coords t)) Y)
        isplitr
        · ipureintro; exact (if_neg h3).mpr hstep
        iexact HY
      isplitl [HS HQ]
      · isplitl [HS]; · iexact HS
        iexact HQ
      iexact Hg

/-- What the pipeline hands the body at grid point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ Y, ⌜((dats m 0 c).toRRel marked (Rel m c)).Finds 12 t Y⌝ ∗ owns (c : Thread nD τ) (st0_12 t) fullShare Y))

/-- and what it takes back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (∃ X, ⌜Leaves m c t X⌝ ∗ owns (c : Thread nD τ) (st0_12 t) fullShare X))

set_option maxHeartbeats 1000000 in
/-- The body at grid point `t`, between those two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11, Phi_succ, Phi_castSucc]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, %hY, H12⟩⟩
  iapply (body_at m c t Y (finds_held m c t Y hY))
  unfold Inputs Reads
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexact H12
  isplitl [HI]; · iexact HI
  iintro ⟨⟨H0, H1, H2, H3, H4, H5, H6, H7, H8, H9, H10, H11⟩, H12, HI⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the kernel's body there. -/
theorem defs₀_row (t : Fin cfg0.N) :
    defs₀ (F := F) .tc cfg0.body (cfg0.bodyArgs t (cfg0.slots t)) = bodyAt0 t := by
  unfold defs₀; rw [Defs.onTc_tc]

/-- The pipeline's obligation of the body. -/
theorem body_obligation (c : Dev nD) :
    BodyObligationRel (dats (F := F) m 0 c) (defs₀ (F := F)) Variants.none () Set.univ marked (Rel m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 :=
  Idealize.SL.BI.Entails.refl _

/-- After the last point the invariant gives it back. -/
theorem hout (c : Dev nD) : (dats m 0 c).Φ (Fin.last cfg0.N) ⊢ Pipeline.ΦA spec0 c := by
  have hn : (Fin.last cfg0.N).val ≠ 0 := by rw [Fin.val_last, show cfg0.N = 4 from N_0]; decide
  rw [show (dats m 0 c).Φ (Fin.last cfg0.N) = Inv m c (Fin.last cfg0.N).val from rfl, Inv_pos m c _ hn, PhiA_eq]
  iintro ⟨⟨HS, HQ⟩, Hg⟩
  isplitl [HS HQ]
  · isplitl [HS]
    · iexists _; iexact HS
    iexists _; iexact HQ
  iexact Hg

end Cert.KernelIdeal.Hand
-- ==== Proof.Launch.lean ====
module

public import proofs.«01_k».proof.Proof.Obligation
public import Idealize.ShloMosaic.Lib.Pipeline.ArrRel
public import Idealize.ShloMosaic.Lib.Claim

/-!
The launch: what every run of the kernel ends with — the argument arrays as they were, the result array holding the
normalised stack, every semaphore counter at zero.
-/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)
open Cert.KernelIdeal.Gen

variable {F : FTy → Type} [FloatOps F] [Named F]

variable (m : (ℓ : Loc nD τ sig) → Buf (Elt F) ℓ) (ρ : Dev nD → PrngReg)

set_option backward.isDefEq.respectTransparency.types false in
/-- The run for any proof data of this pipeline whose output is described by a property. -/
theorem run_of (ds : (p : Fin 1) → (c : Dev nD) → Dat τ (Elt F) Unit ℕ (UR sig nD τ) ℕ (cfgs p) c)
    (Rl : (c : Dev nD) → (w : Fin cfg0.W) → Fin cfg0.N → ((cfg0.win w).block.Idx → Elt F (cfg0.win w).elt) → Prop)
    (hbody : ∀ c, BodyObligationRel (ds 0 c) (defs₀ (F := F)) Variants.none () Set.univ marked (Rl c))
    (hshare : ∀ c w, (ds 0 c).share w = fullShare) (howed : ∀ c t, (ds 0 c).owed t = 0)
    (hA : ∀ c w, (ds 0 c).A w = V m c (Pipeline.arrRef spec0 w))
    (hin : ∀ c, Pipeline.ΦA spec0 c ⊢ (ds 0 c).Φ 0) (hout : ∀ c, (ds 0 c).Φ (Fin.last cfg0.N) ⊢ Pipeline.ΦA spec0 c) :
    θ_run defs (onTc (τ := τ) (main (F := F))) (s₀ m ρ)
      (fun r => Pipeline.RDat.FramePost (cfgs 0) (fun c => (ds 0 c).toRRel marked (Rl c)) (V m) r ∧ r.2.sem = fun _ => 0) :=
  Pipeline.RDat.θ_run_frame_track (Q' := _) cfgs (0 : Fin 1) launch0 defs₀ Variants.none (fun c => (ds 0 c).toRRel marked (Rl c)) m ρ main
    (fun c => (hbody c).toRRel) hshare howed (V m) (hmain m Variants.none) hA hin hout

/-- The run of this pipeline's own proof data. -/
theorem run_main : θ_run defs (onTc (τ := τ) (main (F := F))) (s₀ m ρ)
    (fun r => Pipeline.RDat.FramePost (cfgs 0) (fun c => (dats m 0 c).toRRel marked (Rel m c)) (V m) r ∧ r.2.sem = fun _ => 0) :=
  run_of m ρ (dats m) (Rel m) (body_obligation m) (fun c => (dats m 0 c).share_full fun _ => rfl) (fun _ _ => rfl) (A_eq m) (hin m) (hout m)

/-- The whole output array is written back once, at the last point. -/
theorem wholeAt_last : (cfg0.win 12).WholeAt lastPt := by
  refine ⟨(flush0_12 _).mpr rfl, fun t ht => ?_, by decide +kernel⟩
  have h3 := (flush0_12 t).mp ht
  have hlt := pt_lt t
  exact Fin.ext (show t.val = 3 by omega)

/-- What the result array holds at the end of a run. -/
theorem post_result (c : Dev nD) (r : PUnit × MemSt nD τ sig (Elt F))
    (h : Pipeline.RDat.FramePost (cfgs 0) (fun c => (dats m 0 c).toRRel marked (Rel m c)) (V m) r) :
    r.2.mem ((c.tc : Thread nD τ).loc main_v0) = result m c := by
  obtain ⟨X, hX, hG⟩ := Pipeline.RDat.ArrAt.emb_eq_of_wholeAt (w := 12) ((h c).1 12) wholeAt_last
  have hr : Leaves m c lastPt X := Pipeline.Dat.toRRel_leaves (dats m 0 c) (w := 12) rfl hX
  have e : X = result m c := (if_pos rfl).mp hr
  funext j
  refine (hG j).trans ?_
  rw [e]
  rfl

/-- What the argument arrays hold at the end of a run. -/
theorem post_args (c : Dev nD) (r : PUnit × MemSt nD τ sig (Elt F))
    (h : Pipeline.RDat.FramePost (cfgs 0) (fun c => (dats m 0 c).toRRel marked (Rel m c)) (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
    (Pipeline.RDat.FramePost.arr_in h c 1 rfl).trans ((A_eq m c 1).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c)),
    (Pipeline.RDat.FramePost.arr_in h c 4 rfl).trans ((A_eq m c 4).trans (V_main_arg4 m c)),
    (Pipeline.RDat.FramePost.arr_in h c 5 rfl).trans ((A_eq m c 5).trans (V_main_arg5 m c)),
    ((h c).2 main_arg6 (Pipeline.mem_restRefs_of main_arg6 (by decide) (by decide))).trans (V_main_arg6 m c),
    (Pipeline.RDat.FramePost.arr_in h c 7 rfl).trans ((A_eq m c 7).trans (V_main_arg7 m c)),
    ((h c).2 main_arg8 (Pipeline.mem_restRefs_of main_arg8 (by decide) (by decide))).trans (V_main_arg8 m c),
    (Pipeline.RDat.FramePost.arr_in h c 9 rfl).trans ((A_eq m c 9).trans (V_main_arg9 m c)),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

/-- Every run ends, leaves the arguments as they were, and brings every semaphore counter back to zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => post_args m c r h.1, h.2⟩) (run_main m ρ)

/-- Every run ends with the normalised stack in the result array and the arguments as they were. -/
theorem run_value : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨post_result m c r h.1, post_args m c r h.1⟩) (run_main m ρ)

end Cert.KernelIdeal.Hand
-- ==== Proof.Original.lean ====
/- The FRAME OF THE ORIGINAL KERNEL, from the frame of the idealised one.

   The two programs are one text except that the idealised one reads the softmax scale by its name.
   The run of the idealised program (`Cert.KernelIdeal.Hand.frame`) is proved at every reading of the
   floats that also reads names. At the machine's words a name may be read as the word printed beside
   it; the idealised program then IS the original one, and its frame is the original's. -/
module

public import proofs.«01_k».proof.Defs
public import proofs.«01_k».proof.Proof.Launch
public import proofs.«01_k».proof.Proof.Gen.Kernel

@[expose] public section

set_option maxRecDepth 65536
set_option maxHeartbeats 4000000

namespace Cert.Kernel.Hand

open Idealize.ShloMosaic Idealize.SL.Sem

/-- The reading of named constants at the machine's words that ignores the name and keeps the word. -/
@[reducible] def namedWord : Named Bits where
  named _ _ {φ} bits := Scalar.ofBits φ bits

section

attribute [local instance] namedWord

/-- At the machine's words the two kernel bodies are one program. -/
theorem body_eq : Cert.KernelIdeal.cc0__body (F := Bits) = Cert.Kernel.cc0__body (F := Bits) := by
  unfold Cert.KernelIdeal.cc0__body Cert.Kernel.cc0__body
  rfl

/-- So are the tables of kernel bodies: the one label runs the one body on the same buffers. -/
theorem bodies_eq : Cert.KernelIdeal.defs₀ (F := Bits) = Cert.Kernel.defs₀ (F := Bits) := by
  unfold Cert.KernelIdeal.defs₀ Cert.Kernel.defs₀
  refine congrArg Defs.onTc (funext fun l => funext fun a => ?_)
  match l, a with
  | 0, (t, s) =>
    dsimp only
    rw [body_eq]
    rfl

/-- So are the tables completed with the launch's region and pipeline. -/
theorem defs_eq : Cert.KernelIdeal.defs (F := Bits) = Cert.Kernel.defs (F := Bits) := by
  unfold Cert.KernelIdeal.defs Cert.Kernel.defs
  rw [bodies_eq]
  rfl

/-- So are the host programs: five reshapes and the launch. -/
theorem main_eq : Cert.KernelIdeal.main (F := Bits) = Cert.Kernel.main (F := Bits) := by
  unfold Cert.KernelIdeal.main Cert.Kernel.main
  funext c
  unfold Cert.KernelIdeal.fn_kernel.body Cert.Kernel.fn_kernel.body
  rfl

/-- The original kernel runs to the end from every start, leaves its twelve arguments as they were
    and every semaphore at zero. -/
theorem frame : Cert.quiescent_Kernel := fun m ρ _ => by
  have h := Cert.KernelIdeal.Hand.frame (F := Bits) m ρ
  rw [defs_eq, main_eq] at h
  exact h

end

end Cert.Kernel.Hand

end
-- ==== Proof.Reals.lean ====
module

public import Idealize.ShloMosaic.PureOps.Ideal

/-!
Extended reals that are real numbers: the operations of the two programs keep to them, and on them the laws that
fail at the infinities (distributivity, moving a factor out of a sum) hold.
-/

@[expose] public section

noncomputable section

namespace Cert.KernelIdeal.Hand

open Idealize.ShloMosaic

/-- `x` is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

/-- Neither infinity: a real number. -/
theorem isReal_of_ne {x : EReal} (hb : x ≠ ⊥) (ht : x ≠ ⊤) : IsReal x := ⟨x.toReal, (EReal.coe_toReal ht hb).symm⟩

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.inv {x : EReal} : IsReal x → IsReal x⁻¹
  | ⟨a, ha⟩ => ⟨a⁻¹, by rw [ha, EReal.coe_inv]⟩

/-- The inclusion of the reals carries a finite sum to the sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the image of a real family. -/
theorem lift {ι : Type*} {f : ι → EReal} (h : ∀ i, IsReal (f i)) : ∃ g : ι → ℝ, f = fun i => (g i : EReal) :=
  ⟨fun i => (h i).choose, funext fun i => (h i).choose_spec⟩

theorem isReal_sum {ι : Type*} [Fintype ι] {f : ι → EReal} (h : ∀ i, IsReal (f i)) : IsReal (∑ i, f i) := by
  obtain ⟨g, rfl⟩ := lift h
  exact ⟨_, (coe_sum _ g).symm⟩

/-- A factor moves out of a finite sum of reals. -/
theorem sum_mul_of_isReal {ι : Type*} [Fintype ι] {f : ι → EReal} {c : EReal} (h : ∀ i, IsReal (f i)) (hc : IsReal c) :
    (∑ i, f i) * c = ∑ i, f i * c := by
  obtain ⟨g, rfl⟩ := lift h
  obtain ⟨r, rfl⟩ := hc
  simp only [← coe_sum, ← EReal.coe_mul, Finset.sum_mul]

/-- The greatest of finitely many extended reals, from `⊥`. -/
def top {ι : Type*} [Fintype ι] (f : ι → EReal) : EReal := Finset.univ.fold max ⊥ f

/-- The greatest of finitely many reals, at least one, is one of them. -/
theorem isReal_top {ι : Type*} [Fintype ι] [Nonempty ι] {f : ι → EReal} (h : ∀ i, IsReal (f i)) : IsReal (top f) := by
  obtain ⟨i, -, hi⟩ := Finset.exists_mem_eq_sup Finset.univ Finset.univ_nonempty f
  have : top f = f i := hi
  exact this ▸ h i

/-- The exponential of a real is a positive real. -/
theorem exp_isReal {x : EReal} : IsReal x → ∃ r : ℝ, 0 < r ∧ Ideal.exp x = (r : EReal)
  | ⟨a, ha⟩ => ⟨Real.exp a, Real.exp_pos a, by rw [ha, Ideal.exp_coe]⟩

/-- The logistic function is a real, at the infinities too. -/
theorem isReal_logistic (x : EReal) : IsReal (Ideal.logistic x) := by
  induction x using EReal.rec with
  | bot =>
    have h : (1 : EReal) + ⊤ = ⊤ := EReal.add_top_of_ne_bot (EReal.coe_ne_bot 1)
    refine ⟨0, ?_⟩
    simp [Ideal.logistic, Ideal.div, h]
  | coe r => exact ⟨_, Ideal.logistic_coe r⟩
  | top =>
    refine ⟨1, ?_⟩
    simp [Ideal.logistic, Ideal.div]

/-- Multiplying by the quotient of one by `s` is dividing by `s`, for `s` not zero. -/
theorem mul_div_one (x : EReal) {s : EReal} (hs : s ≠ 0) : x * Ideal.div 1 s = Ideal.div x s := by
  simp only [Ideal.div, if_neg hs, one_mul]

theorem isReal_div {x s : EReal} (hx : IsReal x) (hs : IsReal s) (h0 : s ≠ 0) : IsReal (Ideal.div x s) := by
  simp only [Ideal.div, if_neg h0]
  exact hx.mul hs.inv

/-- A sum of products scaled by the quotient of one by `s` is the sum of the products with each weight divided by
`s`. -/
theorem sum_scaled {ι : Type*} [Fintype ι] {w p : ι → EReal} {s : EReal} (hw : ∀ i, IsReal (w i)) (hp : ∀ i, IsReal (p i))
    (hs : IsReal s) (h0 : s ≠ 0) : (∑ i, w i * p i) * Ideal.div 1 s = ∑ i, Ideal.div (w i) s * p i := by
  rw [mul_div_one _ h0]
  simp only [Ideal.div, if_neg h0]
  rw [sum_mul_of_isReal (fun i => (hw i).mul (hp i)) hs.inv]
  exact Finset.sum_congr rfl fun i _ => mul_right_comm _ _ _

/-- The sum of finitely many positive reals, at least one, is a positive real. -/
theorem sum_pos_isReal {ι : Type*} [Fintype ι] [Nonempty ι] {f : ι → EReal} (h : ∀ i, ∃ r : ℝ, 0 < r ∧ f i = (r : EReal)) :
    IsReal (∑ i, f i) ∧ ∑ i, f i ≠ 0 := by
  choose g hg hf using h
  have e : ∑ i, f i = ((∑ i, g i : ℝ) : EReal) := by rw [coe_sum]; exact Finset.sum_congr rfl fun i _ => hf i
  refine ⟨⟨_, e⟩, ?_⟩
  rw [e]
  exact EReal.coe_ne_zero.mpr (Finset.sum_pos (fun i _ => hg i) Finset.univ_nonempty).ne'

/-- The shrink: a value above the threshold is kept, any other becomes zero. The plain formula says the same: the part
above the threshold times the value, over the distance to the threshold (over one where that distance is zero). -/
theorem shrink_eq {l z : EReal} (hl : IsReal l) (hz : IsReal z) :
    (if l < z then z else 0)
      = Ideal.div (max (z - l) 0 * z) (if max (z - l) (-(z - l)) = 0 then 1 else max (z - l) (-(z - l))) := by
  obtain ⟨l, rfl⟩ := hl
  obtain ⟨z, rfl⟩ := hz
  rw [← EReal.coe_sub]
  have hm : max ((z - l : ℝ) : EReal) (-((z - l : ℝ) : EReal)) = ((|z - l| : ℝ) : EReal) := by
    rw [← EReal.coe_neg, ← EReal.coe_strictMono.monotone.map_max, abs_eq_max_neg]
  have h0 : max ((z - l : ℝ) : EReal) 0 = ((max (z - l) 0 : ℝ) : EReal) := by
    rw [EReal.coe_strictMono.monotone.map_max, EReal.coe_zero]
  rw [hm, h0, ← EReal.coe_mul]
  simp only [EReal.coe_lt_coe_iff, EReal.coe_eq_zero, abs_eq_zero]
  rcases lt_trichotomy l z with h | h | h
  · have hd : 0 < z - l := sub_pos.mpr h
    rw [if_pos h, if_neg hd.ne', abs_of_pos hd, max_eq_left hd.le, Ideal.div_coe hd.ne', ← EReal.coe_mul]
    congr 1
    field_simp
  · subst h
    simp [Ideal.div]
  · have hd : z - l < 0 := sub_neg.mpr h
    rw [if_neg h.not_gt, if_neg hd.ne, max_eq_right hd.le, abs_of_neg hd, Ideal.div_coe (neg_ne_zero.mpr hd.ne),
      zero_mul, EReal.coe_zero, zero_mul]

end Cert.KernelIdeal.Hand
-- ==== Proof.Net.lean ====
module

public import proofs.«01_k».proof.Proof.Reals

/-!
One image through the network, as extended reals: what the kernel computes (`outK`) and what the reference computes
(`outR`), and that the two are equal, and real, where the image and the weights in front of the gate's two layers are.
The gate's own weights may hold infinities: a logistic function of anything is a real number.
-/

@[expose] public section

noncomputable section

namespace Cert.KernelIdeal.Hand

open Idealize.ShloMosaic

/-- An image `x` (channel, position) and the weights: projections, prototypes (feature, slot), the gate's two layers, and
the three constants (logit scale, shrink threshold, the small number added to a sum before it divides). -/
@[ext]
structure Net (C N A K H : Type) where
  x : C → N → EReal
  theta : A → C → EReal
  phi : A → C → EReal
  g : A → C → EReal
  o : C → A → EReal
  w1 : H → K → EReal
  b1 : H → EReal
  w2 : K → H → EReal
  b2 : K → EReal
  proto : A → K → EReal
  s : EReal
  lam : EReal
  eps : EReal

namespace Net

variable {C N A K H : Type} [Fintype C] [Fintype N] [Fintype A] [Fintype K] [Fintype H] (D : Net C N A K H)

/-- The exponentials of a row of logits less the row's greatest. -/
def soft {ι : Type} [Fintype ι] (l : ι → EReal) (k : ι) : EReal := Ideal.exp (l k - top l)

/-- The query of a position. -/
def query (n : N) (f : A) : EReal := ∑ c, D.x c n * D.theta f c

/-- The value of a position. -/
def value (m : N) (f : A) : EReal := ∑ c, D.x c m * D.g f c

/-- How much a position asks of a prototype. -/
def logit (n : N) (k : K) : EReal := (∑ f, D.query n f * D.proto f k) * D.s

/-- The gate's two layers on a row `a`, before the logistic function. -/
def raw (a : K → EReal) (k : K) : EReal := (∑ h, max ((∑ j, a j * D.w1 h j) + D.b1 h) 0 * D.w2 k h) + D.b2 k

/-- A row after its gate. -/
def gated (a : K → EReal) (k : K) : EReal := a k * Ideal.logistic (D.raw a k)

/-! The kernel's way. -/

def attnK (n : N) (k : K) : EReal := soft (D.logit n) k * Ideal.div 1 (∑ j, soft (D.logit n) j)

def shrunkK (n : N) (k : K) : EReal := if D.lam < D.gated (D.attnK n) k then D.gated (D.attnK n) k else 0

def readK (n : N) (f : A) : EReal :=
  (∑ k, D.shrunkK n k * D.proto f k) * Ideal.div 1 ((∑ k, D.shrunkK n k) + D.eps)

def keyK (f : A) (m : N) : EReal := (∑ c, D.phi f c * D.x c m) * D.s

def selfK (n m : N) : EReal := ∑ f, D.query n f * D.keyK f m

def mixK (n : N) (f : A) : EReal :=
  (∑ m, soft (D.selfK n) m * D.value m f) * Ideal.div 1 (∑ m, soft (D.selfK n) m)

def outK (c : C) (n : N) : EReal := D.x c n + ∑ f, D.o c f * (D.readK n f + D.mixK n f)

/-! The reference's way. -/

def attnR (n : N) (k : K) : EReal := Ideal.div (soft (D.logit n) k) (∑ j, soft (D.logit n) j)

def shrink (z : EReal) : EReal :=
  Ideal.div (max (z - D.lam) 0 * z)
    (if max (z - D.lam) (-(z - D.lam)) = 0 then 1 else max (z - D.lam) (-(z - D.lam)))

def shrunkR (n : N) (k : K) : EReal := D.shrink (D.gated (D.attnR n) k)

def readR (n : N) (f : A) : EReal :=
  ∑ k, Ideal.div (D.shrunkR n k) ((∑ j, D.shrunkR n j) + D.eps) * D.proto f k

def keyR (f : A) (m : N) : EReal := ∑ c, D.x c m * D.phi f c

def selfR (n m : N) : EReal := (∑ f, D.query n f * D.keyR f m) * D.s

def mixR (n : N) (f : A) : EReal := ∑ m, Ideal.div (soft (D.selfR n) m) (∑ j, soft (D.selfR n) j) * D.value m f

def outR (c : C) (n : N) : EReal := D.x c n + ∑ f, D.o c f * (D.readR n f + D.mixR n f)

/-- The arrays in front of the gate hold reals; the constants are real, the last two not negative and positive. -/
structure RealData : Prop where
  x : ∀ c n, IsReal (D.x c n)
  theta : ∀ f c, IsReal (D.theta f c)
  phi : ∀ f c, IsReal (D.phi f c)
  g : ∀ f c, IsReal (D.g f c)
  o : ∀ c f, IsReal (D.o c f)
  proto : ∀ f k, IsReal (D.proto f k)
  s : IsReal D.s
  lam : ∃ r : ℝ, 0 ≤ r ∧ D.lam = (r : EReal)
  eps : ∃ r : ℝ, 0 < r ∧ D.eps = (r : EReal)

/-- A row of real logits has positive real exponentials. -/
theorem soft_pos {ι : Type} [Fintype ι] [Nonempty ι] {l : ι → EReal} (h : ∀ i, IsReal (l i)) (k : ι) :
    ∃ r : ℝ, 0 < r ∧ soft l k = (r : EReal) := exp_isReal ((h k).sub (isReal_top h))

theorem soft_isReal {ι : Type} [Fintype ι] [Nonempty ι] {l : ι → EReal} (h : ∀ i, IsReal (l i)) (k : ι) :
    IsReal (soft l k) := (soft_pos h k).imp fun _ h => h.2

variable {D} (hD : D.RealData)
include hD

theorem query_isReal (n : N) (f : A) : IsReal (D.query n f) := isReal_sum fun c => (hD.x c n).mul (hD.theta f c)

theorem value_isReal (m : N) (f : A) : IsReal (D.value m f) := isReal_sum fun c => (hD.x c m).mul (hD.g f c)

theorem logit_isReal (n : N) (k : K) : IsReal (D.logit n k) :=
  (isReal_sum fun f => (query_isReal hD n f).mul (hD.proto f k)).mul hD.s

section Slots
variable [Nonempty K]

/-- Scaling by the inverse of a row's sum is dividing by it. -/
theorem attn_eq (n : N) (k : K) : D.attnK n k = D.attnR n k :=
  mul_div_one _ (sum_pos_isReal (soft_pos (logit_isReal hD n))).2

theorem attnR_isReal (n : N) (k : K) : IsReal (D.attnR n k) :=
  have h := sum_pos_isReal (soft_pos (logit_isReal hD n))
  isReal_div (soft_isReal (logit_isReal hD n) k) h.1 h.2

theorem gated_isReal (n : N) (k : K) : IsReal (D.gated (D.attnR n) k) :=
  (attnR_isReal hD n k).mul (isReal_logistic _)

/-- Keeping what lies above the threshold is the reference's shrink. -/
theorem shrunk_eq (n : N) (k : K) : D.shrunkK n k = D.shrunkR n k := by
  have e : D.attnK n = D.attnR n := funext (attn_eq hD n)
  unfold shrunkK shrunkR shrink
  rw [e]
  exact shrink_eq (hD.lam.imp fun _ h => h.2) (gated_isReal hD n k)

/-- A shrunk weight is a real number that is not negative. -/
theorem shrunkK_nonneg (n : N) (k : K) : ∃ r : ℝ, 0 ≤ r ∧ D.shrunkK n k = (r : EReal) := by
  have e : D.attnK n = D.attnR n := funext (attn_eq hD n)
  obtain ⟨z, hz⟩ := gated_isReal hD n k
  obtain ⟨l, hl0, hl⟩ := hD.lam
  unfold shrunkK
  rw [e, hz, hl]
  split
  · rename_i h
    exact ⟨z, hl0.trans (EReal.coe_lt_coe_iff.mp h).le, rfl⟩
  · exact ⟨0, le_rfl, rfl⟩

theorem shrunkK_isReal (n : N) (k : K) : IsReal (D.shrunkK n k) := (shrunkK_nonneg hD n k).imp fun _ h => h.2

/-- The sum that divides is real and not zero. -/
theorem weight_sum (n : N) : IsReal ((∑ k, D.shrunkK n k) + D.eps) ∧ (∑ k, D.shrunkK n k) + D.eps ≠ 0 := by
  choose w hw0 hw using shrunkK_nonneg hD n
  obtain ⟨e, he0, he⟩ := hD.eps
  have h : (∑ k, D.shrunkK n k) + D.eps = ((∑ k, w k + e : ℝ) : EReal) := by
    rw [EReal.coe_add, coe_sum, he]
    exact congrArg (· + _) (Finset.sum_congr rfl fun k _ => hw k)
  refine ⟨⟨_, h⟩, ?_⟩
  rw [h]
  exact EReal.coe_ne_zero.mpr (add_pos_of_nonneg_of_pos (Finset.sum_nonneg fun k _ => hw0 k) he0).ne'

/-- What is read from the prototypes. -/
theorem read_eq (n : N) (f : A) : D.readK n f = D.readR n f := by
  have e : D.shrunkK n = D.shrunkR n := funext (shrunk_eq hD n)
  have h := weight_sum hD n
  unfold readK readR
  rw [sum_scaled (shrunkK_isReal hD n) (fun k => hD.proto f k) h.1 h.2, e]

theorem readK_isReal (n : N) (f : A) : IsReal (D.readK n f) := by
  have h := weight_sum hD n
  exact (isReal_sum fun k => (shrunkK_isReal hD n k).mul (hD.proto f k)).mul (isReal_div isReal_one h.1 h.2)

end Slots

theorem keyR_isReal (f : A) (m : N) : IsReal (D.keyR f m) := isReal_sum fun c => (hD.x c m).mul (hD.phi f c)

/-- Scaling the keys is scaling the logits. -/
theorem self_eq (n m : N) : D.selfK n m = D.selfR n m := by
  have e : ∀ f, D.keyK f m = D.keyR f m * D.s := fun f =>
    congrArg (· * D.s) (Finset.sum_congr rfl fun c _ => mul_comm _ _)
  unfold selfK selfR
  rw [sum_mul_of_isReal (fun f => (query_isReal hD n f).mul (keyR_isReal hD f m)) hD.s]
  exact Finset.sum_congr rfl fun f _ => by rw [e, mul_assoc]

theorem selfR_isReal (n m : N) : IsReal (D.selfR n m) :=
  (isReal_sum fun f => (query_isReal hD n f).mul (keyR_isReal hD f m)).mul hD.s

section Positions
variable [Nonempty N]

/-- What self-attention gives. -/
theorem mix_eq (n : N) (f : A) : D.mixK n f = D.mixR n f := by
  have e : D.selfK n = D.selfR n := funext (self_eq hD n)
  have h := sum_pos_isReal (soft_pos (selfR_isReal hD n))
  unfold mixK mixR
  rw [e]
  exact sum_scaled (soft_isReal (selfR_isReal hD n)) (fun m => value_isReal hD m f) h.1 h.2

theorem mixK_isReal (n : N) (f : A) : IsReal (D.mixK n f) := by
  have e : D.selfK n = D.selfR n := funext (self_eq hD n)
  have h := sum_pos_isReal (soft_pos (selfR_isReal hD n))
  unfold mixK
  rw [e]
  exact (isReal_sum fun m => (soft_isReal (selfR_isReal hD n) m).mul (value_isReal hD m f)).mul
    (isReal_div isReal_one h.1 h.2)

variable [Nonempty K]

/-- One image: the kernel and the reference compute the same. -/
theorem out_eq (c : C) (n : N) : D.outK c n = D.outR c n := by
  unfold outK outR
  exact congrArg (D.x c n + ·) (Finset.sum_congr rfl fun f _ => by rw [read_eq hD, mix_eq hD])

theorem outK_isReal (c : C) (n : N) : IsReal (D.outK c n) :=
  (hD.x c n).add (isReal_sum fun f => (hD.o c f).mul ((readK_isReal hD n f).add (mixK_isReal hD n f)))

end Positions

end Net

end Cert.KernelIdeal.Hand
-- ==== Proof.KernelImage.lean ====
module

public import proofs.«01_k».proof.Proof.Block
public import proofs.«01_k».proof.Proof.Net
public import Idealize.ShloMosaic.Lib.Pointwise

/-!
What the kernel makes of one image, read at a channel and a position: `Net.outK`.
-/

@[expose] public section

set_option maxRecDepth 16384

noncomputable section

namespace Cert.KernelIdeal.Hand

open Idealize.ShloMosaic Cert.KernelIdeal Cert.KernelIdeal.Gen

/-- The scale of the logits. -/
def logitScale : EReal := (((Real.sqrt 128)⁻¹ : ℝ) : EReal)

/-- The word of the shrink's threshold. -/
def threshold : EReal := Ideal.ofBits .f32 0x3A800000#32

/-- The word of the small number added to a sum before it divides. -/
def tiny : EReal := Ideal.ofBits .f32 0x2B8CBCCC#32

/-- The word a maximum starts from is `⊥`. -/
theorem word_bot : Ideal.ofBits .f32 0xFF800000#32 = ⊥ := by simp [Ideal.ofBits, Ideal.ieee]

/-- The named constant of the kernel is the logits' scale. -/
theorem named_s : (Named.named (F := Ideal) (φ := .f32) κ "s" 0x3DB504F3#32 : EReal) = logitScale :=
  IdealRules.named_const.ideal_named_scalar _ _ _ _ rfl

/-- The blocks one image's computation reads, as a network. -/
def netOf (W : Weights Ideal) (x : Vec Ideal S1x384x1024 .f32) :
    Net (Fin 384) (Fin 1024) (Fin 128) (Fin 1024) (Fin 256) where
  x c n := x (ix3 0 c n)
  theta f c := W.theta (ix2 f c)
  phi f c := W.phi (ix2 f c)
  g f c := W.g (ix2 f c)
  o c f := W.o (ix2 c f)
  w1 h k := W.w1 (ix2 h k)
  b1 h := W.b1 (ix2 0 h)
  w2 k h := W.w2 (ix2 k h)
  b2 k := W.b2 (ix2 0 k)
  proto f k := W.proto (ix2 f k)
  s := logitScale
  lam := threshold
  eps := tiny

variable (W : Weights Ideal) (x : Vec Ideal S1x384x1024 .f32)

theorem pay17_at (c : Fin 384) (n : Fin 1024) : k0_pay17 x (ix2 c n) = (netOf W x).x c n := by
  pointwise [k0_pay17]
  rfl

theorem pay18_at (n : Fin 1024) (f : Fin 128) : k0_pay18 x W.theta (ix2 n f) = (netOf W x).query n f := by
  pointwise [k0_pay18, k0_pay17]
  rfl

theorem pay19_at (n k : Fin 1024) : k0_pay19 W.proto x W.theta (ix2 n k) = (netOf W x).attnK n k := by
  unfold k0_pay19
  have hq := pay18_at W x
  generalize k0_pay18 x W.theta = q at hq ⊢
  pointwise []
  simp only [hq, named_s, word_bot]
  rfl

theorem pay20_at (n k : Fin 1024) :
    k0_pay20 W.proto x W.theta W.w1 W.b1 W.w2 (ix2 n k) + W.b2 (ix2 0 k) = (netOf W x).raw ((netOf W x).attnK n) k := by
  unfold k0_pay20
  have ha := pay19_at W x
  generalize k0_pay19 W.proto x W.theta = a at ha ⊢
  pointwise []
  simp only [ha]
  rfl

theorem pay21_at (n : Fin 1024) (f : Fin 128) :
    k0_pay21 W.proto (k0_pay19 W.proto x W.theta) (k0_pay20 W.proto x W.theta W.w1 W.b1 W.w2) W.b2 (ix2 n f)
      = (netOf W x).readK n f := by
  have ha := pay19_at W x
  have hr := pay20_at W x
  generalize k0_pay20 W.proto x W.theta W.w1 W.b1 W.w2 = r at hr ⊢
  generalize k0_pay19 W.proto x W.theta = a at ha ⊢
  pointwise [k0_pay21]
  simp only [ha, hr]
  rfl

theorem pay22_at (n m : Fin 1024) :
    k0_pay22 (k0_pay17 x) (k0_pay18 x W.theta) W.phi (ix2 n m) = Net.soft ((netOf W x).selfK n) m := by
  have hx := pay17_at W x
  have hq := pay18_at W x
  generalize k0_pay18 x W.theta = q at hq ⊢
  generalize k0_pay17 x = y at hx ⊢
  pointwise [k0_pay22]
  simp only [hx, hq, named_s, word_bot]
  rfl

theorem pay23_at (n : Fin 1024) (f : Fin 128) :
    k0_pay23 (k0_pay17 x) (k0_pay18 x W.theta) W.phi W.g (ix2 n f)
      = ∑ m, Net.soft ((netOf W x).selfK n) m * (netOf W x).value m f := by
  unfold k0_pay23
  have hx := pay17_at W x
  have he := pay22_at W x
  generalize k0_pay22 (k0_pay17 x) (k0_pay18 x W.theta) W.phi = e at he ⊢
  generalize k0_pay17 x = y at hx ⊢
  pointwise []
  simp only [hx, he]
  rfl

theorem pay24_at (n : Fin 1024) :
    k0_pay24 (k0_pay17 x) (k0_pay18 x W.theta) W.phi (ix2 n 0)
      = Ideal.div 1 (∑ m, Net.soft ((netOf W x).selfK n) m) := by
  unfold k0_pay24
  have he := pay22_at W x
  generalize k0_pay22 (k0_pay17 x) (k0_pay18 x W.theta) W.phi = e at he ⊢
  pointwise []
  simp only [he]

/-- One image at a channel and a position. -/
theorem image_at (c : Fin 384) (n : Fin 1024) : image W x (ix2 c n) = (netOf W x).outK c n := by
  unfold image
  have hx := pay17_at W x
  have hr := pay21_at W x
  have hm := pay23_at W x
  have hi := pay24_at W x
  generalize k0_pay21 W.proto (k0_pay19 W.proto x W.theta) (k0_pay20 W.proto x W.theta W.w1 W.b1 W.w2) W.b2 = r at hr ⊢
  generalize k0_pay23 (k0_pay17 x) (k0_pay18 x W.theta) W.phi W.g = u at hm ⊢
  generalize k0_pay24 (k0_pay17 x) (k0_pay18 x W.theta) W.phi = v at hi ⊢
  generalize k0_pay17 x = y at hx ⊢
  pointwise [k0_pay25]
  simp only [hx, hr, hm, hi]
  rfl

end Cert.KernelIdeal.Hand
-- ==== Proof.Norm.lean ====
module

public import proofs.«01_k».proof.Proof.Reals

/-!
Normalising a channel: from the sum and the sum of squares, as the kernel does, or from the mean and the mean square
distance to it, as the reference does. Over real numbers the two agree; the offset added at the end may be infinite.
-/

@[expose] public section

noncomputable section

namespace Cert.KernelIdeal.Hand

open Idealize.ShloMosaic

/-- The mean of the squares less the square of the mean is the mean square distance to the mean. -/
theorem variance_eq {ι : Type*} [Fintype ι] (f : ι → ℝ) {n : ℝ} (hn : n = Fintype.card ι) (h0 : n ≠ 0) :
    (∑ i, f i * f i) / n - (∑ i, f i) / n * ((∑ i, f i) / n)
      = (∑ i, (f i - (∑ j, f j) / n) * (f i - (∑ j, f j) / n)) / n := by
  have e : ∑ i, (f i - (∑ j, f j) / n) * (f i - (∑ j, f j) / n)
      = ∑ i, f i * f i - (∑ i, f i) * (∑ i, f i) / n := by
    generalize hm : (∑ j, f j) / n = m
    have hs : ∑ j, f j = m * n := by rw [← hm]; field_simp
    have : ∀ i, (f i - m) * (f i - m) = f i * f i - 2 * m * f i + m * m := fun i => by ring
    simp only [this, Finset.sum_add_distrib, Finset.sum_sub_distrib, ← Finset.mul_sum, Finset.sum_const,
      Finset.card_univ, nsmul_eq_mul, ← hn, hs]
    field_simp
    ring
  rw [e]
  field_simp

/-- The kernel's factor of a channel, from the sum `S`, the sum of squares `Q`, the count `n` and the gain `g`. -/
def gainOf (S Q n e g : EReal) : EReal :=
  Ideal.rsqrt (Ideal.div Q n - Ideal.div S n * Ideal.div S n + e) * g

/-- The kernel's offset of a channel. -/
def offsetOf (S Q n e g b : EReal) : EReal := b - Ideal.div S n * gainOf S Q n e g

/-- The reference's normalised value of `y`, from the sum `S` and the sum `V` of the square distances to the mean. -/
def normalised (S V n e g b y : EReal) : EReal :=
  Ideal.div (y - Ideal.div S n) (Ideal.sqrt (Ideal.div V n + e)) * g + b

/-- A real added in two parts, the second with `b`, is added to `b` at once. -/
theorem add_sub_real (p q : ℝ) (b : EReal) : (p : EReal) + (b - (q : EReal)) = ((p - q : ℝ) : EReal) + b := by
  induction b using EReal.rec with
  | bot => simp
  | coe r =>
    rw [← EReal.coe_sub, ← EReal.coe_add, ← EReal.coe_add]
    congr 1
    ring
  | top => rw [EReal.top_sub_coe, EReal.coe_add_top, EReal.coe_add_top]

/-- The kernel's normalisation is the reference's. -/
theorem normalise_eq {ι : Type*} [Fintype ι] {y : ι → EReal} (hy : ∀ i, IsReal (y i)) {n : EReal}
    (hn : n = ((Fintype.card ι : ℝ) : EReal)) (h0 : Fintype.card ι ≠ 0) {e : EReal} (he : ∃ r : ℝ, 0 < r ∧ e = (r : EReal))
    {g : EReal} (hg : IsReal g) (b : EReal) (i : ι) :
    y i * gainOf (∑ j, y j) (∑ j, y j * y j) n e g + offsetOf (∑ j, y j) (∑ j, y j * y j) n e g b
      = normalised (∑ j, y j)
          (∑ j, (y j - Ideal.div (∑ k, y k) n) * (y j - Ideal.div (∑ k, y k) n)) n e g b (y i) := by
  obtain ⟨f, rfl⟩ := lift hy
  obtain ⟨e, he0, rfl⟩ := he
  obtain ⟨g, rfl⟩ := hg
  subst hn
  have hN : (Fintype.card ι : ℝ) ≠ 0 := Nat.cast_ne_zero.mpr h0
  have hNpos : (0 : ℝ) < Fintype.card ι := Nat.cast_pos.mpr (Nat.pos_of_ne_zero h0)
  have hv := variance_eq f rfl hN
  generalize (Fintype.card ι : ℝ) = N at hN hNpos hv ⊢
  have hdiv : ∀ z : ℝ, Ideal.div (z : EReal) (N : EReal) = ((z / N : ℝ) : EReal) := fun z => by
    rw [Ideal.div_coe hN, ← EReal.coe_mul, mul_one_div]
  simp only [← EReal.coe_mul, ← coe_sum, hdiv, ← EReal.coe_sub, gainOf, offsetOf, normalised, ← EReal.coe_add]
  rw [hv]
  generalize hV : (∑ j, (f j - (∑ k, f k) / N) * (f j - (∑ k, f k) / N)) / N = V
  have hV0 : 0 ≤ V := by
    rw [← hV]
    exact div_nonneg (Finset.sum_nonneg fun j _ => mul_self_nonneg _) hNpos.le
  have hp : 0 < V + e := add_pos_of_nonneg_of_pos hV0 he0
  have hs : Real.sqrt (V + e) ≠ 0 := (Real.sqrt_pos.mpr hp).ne'
  rw [Ideal.rsqrt_coe, Ideal.sqrt_coe, if_neg hp.not_gt, if_neg hp.not_gt, if_neg hp.ne', Ideal.div_coe hs]
  simp only [← EReal.coe_mul]
  rw [add_sub_real]
  congr 2
  field_simp

/-- The word of 8192, the number of values of a channel. -/
def count : EReal := Ideal.ofBits .f32 0x46000000#32

/-- The word of the small number added to the variance. -/
def small : EReal := Ideal.ofBits .f32 0x3727C5AC#32

theorem count_eq : count = ((8192 : ℝ) : EReal) := by
  simp [count, Ideal.ofBits, Ideal.ieee]
  rw [← EReal.coe_mul]
  norm_num

end Cert.KernelIdeal.Hand
-- ==== Proof.KernelNorm.lean ====
module

public import proofs.«01_k».proof.Proof.Points
public import proofs.«01_k».proof.Proof.KernelImage
public import proofs.«01_k».proof.Proof.Norm

/-!
The kernel's normalised stack, read at an image, a channel and a position: the running sums are the sums over the
eight images, and the last grid point applies `gainOf` and `offsetOf` to every value.
-/

@[expose] public section

set_option maxRecDepth 16384

noncomputable section

namespace Cert.KernelIdeal.Hand

open Idealize.ShloMosaic Cert.KernelIdeal Cert.KernelIdeal.Gen

/-- Adding an image's rows to a running sum. -/
theorem addSum_at (acc : Vec Ideal S384x1 .f32) (y : Vec Ideal S384x1024 .f32) (r : Fin 384) :
    addSum acc y (ix2 r 0) = (acc (ix2 r 0) : EReal) + ∑ n, (y (ix2 r n) : EReal) := by
  unfold addSum
  pointwise [k0_pay1]

/-- Adding the squares of an image's rows to a running sum. -/
theorem addSq_at (acc : Vec Ideal S384x1 .f32) (y : Vec Ideal S384x1024 .f32) (r : Fin 384) :
    addSq acc y (ix2 r 0) = (acc (ix2 r 0) : EReal) + ∑ n, (y (ix2 r n) : EReal) * (y (ix2 r n) : EReal) := by
  unfold addSq
  pointwise [k0_pay2]

theorem zero_at (r : Fin 384) : (zero (F := Ideal) (ix2 r 0) : EReal) = 0 := by
  unfold zero
  pointwise [k0_pay15]

/-- The factor of a channel. -/
theorem scale_at (s q γ : Vec Ideal S384x1 .f32) (r : Fin 384) :
    scale s q γ (ix2 r 0) = gainOf (s (ix2 r 0)) (q (ix2 r 0)) count small (γ (ix2 r 0)) := by
  unfold scale
  pointwise [k0_pay7, k0_pay6]
  rfl

/-- The term added to a channel. -/
theorem shift_at (s q γ β : Vec Ideal S384x1 .f32) (r : Fin 384) :
    shift s q γ β (ix2 r 0) = offsetOf (s (ix2 r 0)) (q (ix2 r 0)) count small (γ (ix2 r 0)) (β (ix2 r 0)) := by
  have h := scale_at s q γ r
  unfold scale at h
  unfold shift k0_pay8
  generalize k0_pay7 s q γ = k at h ⊢
  pointwise [k0_pay6]
  rw [h]
  rfl

variable (m : (ℓ : Loc nD τ sig) → Buf (Elt Ideal) ℓ) (c : Dev nD)

/-- Image `b`'s network, from the blocks of the grid point that computes it. -/
def netAt (b : Fin 8) : Net (Fin 384) (Fin 1024) (Fin 128) (Fin 1024) (Fin 256) :=
  netOf (wts m c (ptOf b)) (pick (pair m c (ptOf b)) (slotOf b))

theorem img_at (b : Fin 8) (r : Fin 384) (n : Fin 1024) : img m c b (ix2 r n) = (netAt m c b).outK r n :=
  image_at _ _ r n

/-- A running sum after one more point: its two images' shares are added in turn. -/
theorem sum_step (t : Fin cfg0.N) (b b' : Fin 8) (hb : ptOf b = t) (hb' : ptOf b' = t) (h0 : slotOf b = 0)
    (h1 : slotOf b' = 1) (r : Fin 384) :
    ((sums m c (t.val + 1)).1 (ix2 r 0) : EReal)
      = (sums m c t.val).1 (ix2 r 0) + ∑ n, (netAt m c b).outK r n + ∑ n, (netAt m c b').outK r n := by
  rw [sums_succ]
  simp only [sumAfter, addSum_at]
  simp only [← img_at, img, hb, hb', h0, h1]

/-- The same of the running sum of squares. -/
theorem sq_step (t : Fin cfg0.N) (b b' : Fin 8) (hb : ptOf b = t) (hb' : ptOf b' = t) (h0 : slotOf b = 0)
    (h1 : slotOf b' = 1) (r : Fin 384) :
    ((sums m c (t.val + 1)).2 (ix2 r 0) : EReal)
      = (sums m c t.val).2 (ix2 r 0) + ∑ n, (netAt m c b).outK r n * (netAt m c b).outK r n
        + ∑ n, (netAt m c b').outK r n * (netAt m c b').outK r n := by
  rw [sums_succ]
  simp only [sqAfter, addSq_at]
  simp only [← img_at, img, hb, hb', h0, h1]

/-- The grid's point of number `k`. -/
def pt (k : Fin 4) : Fin cfg0.N := ⟨k.val, by rw [show cfg0.N = 4 from N_0]; exact k.isLt⟩

/-- The running sum at the end: all eight images. -/
theorem sum_all (r : Fin 384) :
    ((sums m c 4).1 (ix2 r 0) : EReal) = ∑ b, ∑ n, (netAt m c b).outK r n := by
  have e0 := sum_step m c (pt 0) 0 1 rfl rfl rfl rfl r
  have e1 := sum_step m c (pt 1) 2 3 rfl rfl rfl rfl r
  have e2 := sum_step m c (pt 2) 4 5 rfl rfl rfl rfl r
  have e3 := sum_step m c (pt 3) 6 7 rfl rfl rfl rfl r
  have ez : ((sums m c 0).1 (ix2 r 0) : EReal) = 0 := zero_at r
  rw [Fin.sum_univ_eight]
  refine e3.trans ?_
  refine congrArg₂ (· + ·) (congrArg₂ (· + ·) (e2.trans ?_) rfl) rfl
  refine congrArg₂ (· + ·) (congrArg₂ (· + ·) (e1.trans ?_) rfl) rfl
  refine congrArg₂ (· + ·) (congrArg₂ (· + ·) (e0.trans ?_) rfl) rfl
  exact (congrArg (· + _ + _) ez).trans (by rw [zero_add])

/-- The running sum of squares at the end. -/
theorem sq_all (r : Fin 384) :
    ((sums m c 4).2 (ix2 r 0) : EReal) = ∑ b, ∑ n, (netAt m c b).outK r n * (netAt m c b).outK r n := by
  have e0 := sq_step m c (pt 0) 0 1 rfl rfl rfl rfl r
  have e1 := sq_step m c (pt 1) 2 3 rfl rfl rfl rfl r
  have e2 := sq_step m c (pt 2) 4 5 rfl rfl rfl rfl r
  have e3 := sq_step m c (pt 3) 6 7 rfl rfl rfl rfl r
  have ez : ((sums m c 0).2 (ix2 r 0) : EReal) = 0 := zero_at r
  rw [Fin.sum_univ_eight]
  refine e3.trans ?_
  refine congrArg₂ (· + ·) (congrArg₂ (· + ·) (e2.trans ?_) rfl) rfl
  refine congrArg₂ (· + ·) (congrArg₂ (· + ·) (e1.trans ?_) rfl) rfl
  refine congrArg₂ (· + ·) (congrArg₂ (· + ·) (e0.trans ?_) rfl) rfl
  exact (congrArg (· + _ + _) ez).trans (by rw [zero_add])

/-- The kernel's result at an image, a channel and a position. -/
theorem result_at (b : Fin 8) (r : Fin 384) (n : Fin 1024) :
    (result m c (ix3 b r n) : EReal) = (netAt m c b).outK r n
        * gainOf (∑ b, ∑ n, (netAt m c b).outK r n) (∑ b, ∑ n, (netAt m c b).outK r n * (netAt m c b).outK r n)
            count small (gain m c lastPt (ix2 r 0))
      + offsetOf (∑ b, ∑ n, (netAt m c b).outK r n) (∑ b, ∑ n, (netAt m c b).outK r n * (netAt m c b).outK r n)
            count small (gain m c lastPt (ix2 r 0)) (offset m c lastPt (ix2 r 0)) := by
  have hs : (scale (sums m c 4).1 (sums m c 4).2 (gain m c lastPt) (ix2 r 0) : EReal) = _ :=
    scale_at (sums m c 4).1 (sums m c 4).2 (gain m c lastPt) r
  have ho := shift_at (sums m c 4).1 (sums m c 4).2 (gain m c lastPt) (offset m c lastPt) r
  rw [sum_all, sq_all] at hs ho
  have hy : (stack m c (ix3 b r n) : EReal) = (netAt m c b).outK r n := img_at m c b r n
  rw [← hs, ← ho, ← hy]
  exact if_pos b.isLt

end Cert.KernelIdeal.Hand
-- ==== Proof.RefImage.lean ====
module

public import proofs.«01_k».proof.Proof.Gen.ReferenceIdeal.Read
public import proofs.«01_k».proof.Proof.KernelImage

/-!
What the reference makes of one image of the stack, read at a position and a channel: `Net.outR`.
-/

@[expose] public section

set_option maxRecDepth 16384

noncomputable section

namespace Cert.ReferenceIdeal.Hand

open Idealize.ShloMosaic Cert.ReferenceIdeal Cert.ReferenceIdeal.Gen Cert.ReferenceIdeal.Read
open Cert.KernelIdeal.Hand (Net logitScale threshold tiny top word_bot)

/-- The word of 128. -/
theorem word_128 : Ideal.ofBits .f32 0x43000000#32 = ((128 : ℝ) : EReal) := by
  simp [Ideal.ofBits, Ideal.ieee]
  rw [← EReal.coe_mul]
  norm_num

/-- One over the square root of 128. -/
theorem scale_eq : Ideal.div 1 (Ideal.sqrt (Ideal.ofBits .f32 0x43000000#32)) = logitScale := by
  have h : Real.sqrt 128 ≠ 0 := (Real.sqrt_pos.mpr (by norm_num)).ne'
  rw [word_128, Ideal.sqrt_coe, if_neg (by norm_num), Ideal.div_coe h, one_mul, one_div]
  rfl

/-- The host's row maximum from `⊥` is the greatest of the row. -/
theorem rowMax (y : FVec Ideal S8x1024x1024 .f32) (b : Fin 8) (n : Fin 1024) :
    Host.reduce FloatOps.maximumf y (constant S_ .f32 0xFF800000#32) reducesTo_S8x1024x1024_S8x1024_d2 h_S_ (ix2 b n)
      = top fun k => y (ix3 b n k) := by
  pointwise []
  simp only [word_bot]
  rfl

/-- The host's row sum from zero is the sum of the row. -/
theorem rowSum (y : FVec Ideal S8x1024x1024 .f32) (b : Fin 8) (n : Fin 1024) :
    Host.reduceAdd y (constant S_ .f32 0x00000000#32) reducesTo_S8x1024x1024_S8x1024_d2 h_S_ (ix2 b n)
      = ∑ k, y (ix3 b n k) := by
  pointwise []

/-- A column repeated along each row. -/
theorem spread_col (t : FVec Ideal S8x1024x1 .f32) (b : Fin 8) (n k : Fin 1024) :
    broadcastInDim S8x1024x1024 ![0, 1, 2] bcast_S8x1024x1_S8x1024x1024_0_1_2 t (ix3 b n k) = t (ix3 b n 0) := by
  pointwise []

/-- A number per row, as a column. -/
theorem as_col (t : FVec Ideal S8x1024 .f32) (b : Fin 8) (n : Fin 1024) (k : Fin 1) :
    broadcastInDim S8x1024x1 ![0, 1] bcast_S8x1024_S8x1024x1_0_1 t (ix3 b n k) = t (ix2 b n) := by
  pointwise []

/-- A number per row, repeated along the row. -/
theorem spread (t : FVec Ideal S8x1024 .f32) (b : Fin 8) (n k : Fin 1024) :
    broadcastInDim S8x1024x1024 ![0, 1, 2] bcast_S8x1024x1_S8x1024x1024_0_1_2
        (broadcastInDim S8x1024x1 ![0, 1] bcast_S8x1024_S8x1024x1_0_1 t) (ix3 b n k) = t (ix2 b n) :=
  (spread_col _ b n k).trans (as_col t b n 0)

/-- The greatest of a row, started again from `⊥`. -/
theorem max_again (t : FVec Ideal S8x1024 .f32) (b : Fin 8) (n : Fin 1024) :
    maximumf (broadcastInDim S8x1024 ![] bcast_S_S8x1024 (constant (F := Ideal) S_ .f32 0xFF800000#32)) t (ix2 b n)
      = t (ix2 b n) := by
  pointwise []
  simp only [word_bot, max_bot_left]

/-- The exponentials of the rows of `y` less their greatest. -/
theorem expRow (y : FVec Ideal S8x1024x1024 .f32) (t : FVec Ideal S8x1024 .f32) (b : Fin 8) (n k : Fin 1024) :
    Host.exp (subf y (broadcastInDim S8x1024x1024 ![0, 1, 2] bcast_S8x1024x1_S8x1024x1024_0_1_2
        (broadcastInDim S8x1024x1 ![0, 1] bcast_S8x1024_S8x1024x1_0_1
          (maximumf (broadcastInDim S8x1024 ![] bcast_S_S8x1024 (constant (F := Ideal) S_ .f32 0xFF800000#32)) t))))
        (ix3 b n k)
      = Ideal.exp (y (ix3 b n k) - t (ix2 b n)) :=
  congrArg (fun z => Ideal.exp (y (ix3 b n k) - z)) ((spread _ b n k).trans (max_again t b n))

/-- The rows of `y` divided by a number each. -/
theorem divRow (y : FVec Ideal S8x1024x1024 .f32) (t : FVec Ideal S8x1024x1 .f32) (b : Fin 8) (n k : Fin 1024) :
    Host.divf y (broadcastInDim S8x1024x1024 ![0, 1, 2] bcast_S8x1024x1_S8x1024x1024_0_1_2 t) (ix3 b n k)
      = Ideal.div (y (ix3 b n k)) (t (ix3 b n 0)) :=
  congrArg (fun z => Ideal.div (y (ix3 b n k)) z) (spread_col _ b n k)

/-- The row sums, as a column, with the small number added. -/
theorem rowTotal (y : FVec Ideal S8x1024x1024 .f32) (b : Fin 8) (n : Fin 1024) :
    addf (broadcastInDim S8x1024x1 ![0, 1] bcast_S8x1024_S8x1024x1_0_1
        (Host.reduceAdd y (constant S_ .f32 0x00000000#32) reducesTo_S8x1024x1024_S8x1024_d2 h_S_))
        (val_main_v47 (F := Ideal)) (ix3 b n 0) = (∑ k, y (ix3 b n k)) + tiny :=
  congrArg₂ (fun u v : EReal => u + v) ((as_col _ b n 0).trans (rowSum y b n)) (val_main_v47_apply _)

/-- The arrays the reference takes. -/
structure Args where
  x : FVec Ideal S8x384x32x32 .f32
  theta : FVec Ideal S128x384 .f32
  phi : FVec Ideal S128x384 .f32
  g : FVec Ideal S128x384 .f32
  o : FVec Ideal S384x128 .f32
  w1 : FVec Ideal S256x1024 .f32
  b1 : FVec Ideal S256 .f32
  w2 : FVec Ideal S1024x256 .f32
  b2 : FVec Ideal S1024 .f32
  proto : FVec Ideal S128x1024 .f32
  gamma : FVec Ideal S384 .f32
  beta : FVec Ideal S384 .f32

/-- Image `b` of the stack and the weights, as a network. -/
def Args.net (A : Args) (b : Fin 8) : Net (Fin 384) (Fin 1024) (Fin 128) (Fin 1024) (Fin 256) where
  x c n := val_main_v2 (F := Ideal) A.x (ix3 b c n)
  theta f c := A.theta (ix2 f c)
  phi f c := A.phi (ix2 f c)
  g f c := A.g (ix2 f c)
  o c f := A.o (ix2 c f)
  w1 h k := A.w1 (ix2 h k)
  b1 h := A.b1 (ix1 h)
  w2 k h := A.w2 (ix2 k h)
  b2 k := A.b2 (ix1 k)
  proto f k := A.proto (ix2 f k)
  s := logitScale
  lam := threshold
  eps := tiny

variable (A : Args)

theorem v3_at (b : Fin 8) (n : Fin 1024) (f : Fin 128) :
    val_main_v3 (F := Ideal) A.x A.theta (ix3 b n f) = (A.net b).query n f := by
  unfold val_main_v3 Net.query Args.net
  generalize val_main_v2 (F := Ideal) A.x = y
  pointwise []

theorem v54_at (b : Fin 8) (n : Fin 1024) (f : Fin 128) :
    val_main_v54 (F := Ideal) A.x A.g (ix3 b n f) = (A.net b).value n f := by
  unfold val_main_v54 Net.value Args.net
  generalize val_main_v2 (F := Ideal) A.x = y
  pointwise []

theorem v53_at (b : Fin 8) (f : Fin 128) (m : Fin 1024) :
    val_main_v53 (F := Ideal) A.x A.phi (ix3 b f m) = (A.net b).keyR f m := by
  unfold val_main_v53 val_main_v52 Net.keyR Args.net
  generalize val_main_v2 (F := Ideal) A.x = y
  pointwise []

theorem v6_at (b : Fin 8) (n k : Fin 1024) :
    val_main_v6 (F := Ideal) A.x A.theta A.proto (ix3 b n k) = (A.net b).logit n k := by
  have h := v3_at A
  unfold val_main_v6 val_main_v4
  generalize val_main_v3 (F := Ideal) A.x A.theta = y at h ⊢
  pointwise [val_main_v5, val_main_v1, val_main_v0, val_main_cst, val_main_cst_0]
  simp only [h, scale_eq]
  rfl

theorem v7_at (b : Fin 8) (n : Fin 1024) :
    val_main_v7 (F := Ideal) A.x A.theta A.proto (ix2 b n) = top ((A.net b).logit n) := by
  have h := v6_at A b n
  unfold val_main_v7 val_main_cst_1
  generalize val_main_v6 (F := Ideal) A.x A.theta A.proto = y at h ⊢
  refine (rowMax y b n).trans ?_
  simp only [h]

theorem v13_at (b : Fin 8) (n k : Fin 1024) :
    val_main_v13 (F := Ideal) A.x A.theta A.proto (ix3 b n k) = Net.soft ((A.net b).logit n) k := by
  have h := v6_at A b n
  have ht := v7_at A b n
  unfold val_main_v13 val_main_v12 val_main_v11 val_main_v10 val_main_v9 val_main_v8 val_main_cst_2
  generalize val_main_v7 (F := Ideal) A.x A.theta A.proto = t at ht ⊢
  generalize val_main_v6 (F := Ideal) A.x A.theta A.proto = y at h ⊢
  refine (expRow y t b n k).trans ?_
  rw [h, ht]
  rfl

theorem v17_at (b : Fin 8) (n k : Fin 1024) :
    val_main_v17 (F := Ideal) A.x A.theta A.proto (ix3 b n k) = (A.net b).attnR n k := by
  have h := v13_at A b n
  unfold val_main_v17 val_main_v16 val_main_v15 val_main_v14 val_main_cst_3
  generalize val_main_v13 (F := Ideal) A.x A.theta A.proto = y at h ⊢
  refine (divRow y _ b n k).trans ?_
  rw [as_col, rowSum, h]
  simp only [h]
  rfl

theorem v26_at (b : Fin 8) (n k : Fin 1024) :
    val_main_v26 (F := Ideal) A.x A.theta A.w1 A.b1 A.w2 A.b2 A.proto (ix3 b n k)
      = (A.net b).raw ((A.net b).attnR n) k := by
  have h := v17_at A
  unfold val_main_v26 val_main_v23 val_main_v22 val_main_v21 val_main_v18
  generalize val_main_v17 (F := Ideal) A.x A.theta A.proto = y at h ⊢
  pointwise [val_main_v19, val_main_v20, val_main_v24, val_main_v25, val_main_call0_v0, val_main_call0_cst]
  simp only [h]
  rfl

theorem v33_at (b : Fin 8) (n k : Fin 1024) :
    val_main_v33 (F := Ideal) A.x A.theta A.w1 A.b1 A.w2 A.b2 A.proto (ix3 b n k)
      = (A.net b).gated ((A.net b).attnR n) k := by
  have h := v17_at A
  have hr := v26_at A
  unfold val_main_v33 val_main_v32 val_main_v30 val_main_v28 val_main_v27
  generalize val_main_v26 (F := Ideal) A.x A.theta A.w1 A.b1 A.w2 A.b2 A.proto = r at hr ⊢
  generalize val_main_v17 (F := Ideal) A.x A.theta A.proto = y at h ⊢
  pointwise [val_main_v29, val_main_v31, val_main_cst_4, val_main_cst_5]
  simp only [h, hr]
  rfl

theorem v44_at (b : Fin 8) (n k : Fin 1024) :
    val_main_v44 (F := Ideal) A.x A.theta A.w1 A.b1 A.w2 A.b2 A.proto (ix3 b n k) = (A.net b).shrunkR n k := by
  have h := v33_at A
  unfold val_main_v44 val_main_v43 val_main_v42 val_main_v40 val_main_v39 val_main_v38 val_main_v36 val_main_v35
  generalize val_main_v33 (F := Ideal) A.x A.theta A.w1 A.b1 A.w2 A.b2 A.proto = y at h ⊢
  pointwise [val_main_v34, val_main_v37, val_main_v41, val_main_cst_6, val_main_cst_7, val_main_cst_8, val_main_cst_9,
    val_main_call1_v0, val_main_call1_cst, val_main_call2_v0, val_main_call2_v1]
  have one : id (constant (F := Ideal) S_ .f32 0x3F800000#32) ix0 = (1 : EReal) := Ideal.ofBits_one_f32
  simp only [h, one, Ideal.absf_def]
  rfl

theorem v50_at (b : Fin 8) (n k : Fin 1024) :
    val_main_v50 (F := Ideal) A.x A.theta A.w1 A.b1 A.w2 A.b2 A.proto (ix3 b n k)
      = Ideal.div ((A.net b).shrunkR n k) ((∑ j, (A.net b).shrunkR n j) + tiny) := by
  have h := v44_at A b n
  unfold val_main_v50 val_main_v49 val_main_v48 val_main_v46 val_main_v45 val_main_cst_10
  generalize val_main_v44 (F := Ideal) A.x A.theta A.w1 A.b1 A.w2 A.b2 A.proto = y at h ⊢
  refine (divRow y _ b n k).trans ?_
  rw [rowTotal, h]
  simp only [h]

theorem v51_at (b : Fin 8) (n : Fin 1024) (f : Fin 128) :
    val_main_v51 (F := Ideal) A.x A.theta A.w1 A.b1 A.w2 A.b2 A.proto (ix3 b n f) = (A.net b).readR n f := by
  have h := v50_at A
  unfold val_main_v51
  generalize val_main_v50 (F := Ideal) A.x A.theta A.w1 A.b1 A.w2 A.b2 A.proto = y at h ⊢
  pointwise []
  simp only [h]
  rfl

theorem v57_at (b : Fin 8) (n m : Fin 1024) :
    val_main_v57 (F := Ideal) A.x A.theta A.phi (ix3 b n m) = (A.net b).selfR n m := by
  have h := v3_at A
  have hk := v53_at A
  unfold val_main_v57 val_main_v55
  generalize val_main_v53 (F := Ideal) A.x A.phi = z at hk ⊢
  generalize val_main_v3 (F := Ideal) A.x A.theta = y at h ⊢
  pointwise [val_main_v56, val_main_v1, val_main_v0, val_main_cst, val_main_cst_0]
  simp only [h, hk, scale_eq]
  rfl

theorem v58_at (b : Fin 8) (n : Fin 1024) :
    val_main_v58 (F := Ideal) A.x A.theta A.phi (ix2 b n) = top ((A.net b).selfR n) := by
  have h := v57_at A b n
  unfold val_main_v58 val_main_cst_12
  generalize val_main_v57 (F := Ideal) A.x A.theta A.phi = y at h ⊢
  refine (rowMax y b n).trans ?_
  simp only [h]

theorem v64_at (b : Fin 8) (n k : Fin 1024) :
    val_main_v64 (F := Ideal) A.x A.theta A.phi (ix3 b n k) = Net.soft ((A.net b).selfR n) k := by
  have h := v57_at A b n
  have ht := v58_at A b n
  unfold val_main_v64 val_main_v63 val_main_v62 val_main_v61 val_main_v60 val_main_v59 val_main_cst_13
  generalize val_main_v58 (F := Ideal) A.x A.theta A.phi = t at ht ⊢
  generalize val_main_v57 (F := Ideal) A.x A.theta A.phi = y at h ⊢
  refine (expRow y t b n k).trans ?_
  rw [h, ht]
  rfl

theorem v68_at (b : Fin 8) (n m : Fin 1024) :
    val_main_v68 (F := Ideal) A.x A.theta A.phi (ix3 b n m)
      = Ideal.div (Net.soft ((A.net b).selfR n) m) (∑ j, Net.soft ((A.net b).selfR n) j) := by
  have h := v64_at A b n
  unfold val_main_v68 val_main_v67 val_main_v66 val_main_v65 val_main_cst_14
  generalize val_main_v64 (F := Ideal) A.x A.theta A.phi = y at h ⊢
  refine (divRow y _ b n m).trans ?_
  rw [as_col, rowSum, h]
  simp only [h]

theorem v69_at (b : Fin 8) (n : Fin 1024) (f : Fin 128) :
    val_main_v69 (F := Ideal) A.x A.theta A.phi A.g (ix3 b n f) = (A.net b).mixR n f := by
  have h := v68_at A
  have hv := v54_at A
  unfold val_main_v69
  generalize val_main_v68 (F := Ideal) A.x A.theta A.phi = y at h ⊢
  generalize val_main_v54 (F := Ideal) A.x A.g = z at hv ⊢
  pointwise []
  simp only [h, hv]
  rfl

/-- The output projection of image `b`, at a channel and a position. -/
theorem v72_at (b : Fin 8) (c : Fin 384) (n : Fin 1024) :
    val_main_v72 (F := Ideal) A.x A.theta A.phi A.g A.o A.w1 A.b1 A.w2 A.b2 A.proto (ix3 b c n)
      = ∑ f, (A.net b).o c f * ((A.net b).readR n f + (A.net b).mixR n f) := by
  have h := v51_at A
  have hv := v69_at A
  unfold val_main_v72 val_main_v71 val_main_v70
  generalize val_main_v51 (F := Ideal) A.x A.theta A.w1 A.b1 A.w2 A.b2 A.proto = y at h ⊢
  generalize val_main_v69 (F := Ideal) A.x A.theta A.phi A.g = z at hv ⊢
  pointwise []
  simp only [h, hv]
  rfl

end Cert.ReferenceIdeal.Hand
-- ==== Proof.RefNorm.lean ====
module

public import proofs.«01_k».proof.Proof.RefImage
public import proofs.«01_k».proof.Proof.Norm

/-!
The reference's result at an image, a channel and a position: the stack of `Net.outR` normalised channel by channel.
-/

@[expose] public section

set_option maxRecDepth 16384

noncomputable section

namespace Cert.ReferenceIdeal.Hand

open Idealize.ShloMosaic Cert.ReferenceIdeal Cert.ReferenceIdeal.Gen Cert.ReferenceIdeal.Read
open Cert.KernelIdeal.Hand (Net normalised count small count_eq)

/-- The position of a row and a column. -/
def pos (h w : Fin 32) : Fin 1024 := ⟨h.val * 32 + w.val, by omega⟩

/-- The row of a position. -/
def rowPart (n : Fin 1024) : Fin 32 := ⟨n.val / 32, by omega⟩

/-- The column of a position. -/
def colPart (n : Fin 1024) : Fin 32 := ⟨n.val % 32, by omega⟩

theorem pos_parts (n : Fin 1024) : pos (rowPart n) (colPart n) = n := Fin.ext (Nat.div_add_mod' n.val 32)

/-- A sum over rows and columns is a sum over positions. -/
theorem sum_pos {M : Type*} [AddCommMonoid M] (f : Fin 1024 → M) : ∑ h, ∑ w, f (pos h w) = ∑ n, f n := by
  rw [← Fintype.sum_prod_type']
  refine Fintype.sum_equiv (⟨fun p => pos p.1 p.2, fun n => (rowPart n, colPart n), fun p => ?_, pos_parts⟩ :
    Fin 32 × Fin 32 ≃ Fin 1024) _ _ fun _ => rfl
  refine Prod.ext (Fin.ext ?_) (Fin.ext ?_)
  · show (p.1.val * 32 + p.2.val) / 32 = p.1.val
    have := p.2.isLt
    omega
  · show (p.1.val * 32 + p.2.val) % 32 = p.2.val
    have := p.2.isLt
    omega

/-- Reading a stack of flat images as images of rows and columns. -/
theorem unflatten (y : FVec Ideal S8x384x1024 .f32) (b : Fin 8) (c : Fin 384) (h w : Fin 32) :
    shapeCast S8x384x32x32 y shapeCasts_S8x384x1024_S8x384x32x32 (ix4 b c h w) = y (ix3 b c (pos h w)) := by
  pointwise []
  rfl

/-- Flattening the rows and columns of a stack of images. -/
theorem flatten (y : FVec Ideal S8x384x32x32 .f32) (b : Fin 8) (c : Fin 384) (n : Fin 1024) :
    shapeCast S8x384x1024 y shapeCasts_S8x384x32x32_S8x384x1024 (ix3 b c n) = y (ix4 b c (rowPart n) (colPart n)) := by
  pointwise []
  rfl

/-- Dropping every axis but the channel's keeps the channel. -/
theorem drop_channel (b : Fin 8) (d : Fin 384) (h w : Fin 32) :
    (reducesTo_S8x384x32x32_S384_d0_2_3).drop (ix4 b d h w) = ix1 d :=
  funext fun a => Fin.ext (by
    have ha : a = 0 := Subsingleton.elim _ _
    subst ha
    rfl)

/-- The host's sum over images, rows and columns, from zero. -/
theorem channelSum (y : FVec Ideal S8x384x32x32 .f32) (c : Fin 384) :
    Host.reduceAdd y (constant S_ .f32 0x00000000#32) reducesTo_S8x384x32x32_S384_d0_2_3 h_S_ (ix1 c)
      = ∑ b, ∑ h, ∑ w, y (ix4 b c h w) := by
  show Ideal.ofBits .f32 0x00000000#32
      + ∑ i ∈ Finset.univ.filter (fun i => (reducesTo_S8x384x32x32_S384_d0_2_3).drop i = ix1 c), y i = _
  rw [Ideal.ofBits_zero_f32, zero_add, Finset.sum_filter, sum_idx4]
  refine Finset.sum_congr rfl fun b _ => ?_
  rw [Finset.sum_eq_single c]
  · simp only [drop_channel, if_true]
  · intro d _ hd
    refine Finset.sum_eq_zero fun h _ => Finset.sum_eq_zero fun w _ => if_neg fun he => hd ?_
    rw [drop_channel] at he
    exact congrFun he 0
  · exact fun h => absurd (Finset.mem_univ c) h

/-- A number per channel, repeated over the stack. -/
theorem spread_channel (t : FVec Ideal S1x384x1x1 .f32) (b : Fin 8) (c : Fin 384) (h w : Fin 32) :
    broadcastInDim S8x384x32x32 ![0, 1, 2, 3] bcast_S1x384x1x1_S8x384x32x32_0_1_2_3 t (ix4 b c h w) = t (ix4 0 c 0 0) := by
  pointwise []

/-- A vector over the channels, with axes of size one around it. -/
theorem as_channel (t : FVec Ideal S384 .f32) (c : Fin 384) :
    broadcastInDim S1x384x1x1 ![1] bcast_S384_S1x384x1x1_1 t (ix4 0 c 0 0) = t (ix1 c) := by
  pointwise []

theorem reshape_channel (t : FVec Ideal S384 .f32) (c : Fin 384) :
    shapeCast S1x384x1x1 t shapeCasts_S384_S1x384x1x1 (ix4 0 c 0 0) = t (ix1 c) := by
  pointwise []

/-- The count less the integer zero is the count. -/
theorem count_sub (i : S_.Idx) : val_main_call3_v8 (F := Ideal) i = count := by
  have e : ((FloatOps.sitofp (F := Ideal) .f32 (0#32 : BitVec 32) : Ideal .f32) : EReal) = 0 := by
    show (((0#32 : BitVec 32).toInt : ℝ) : EReal) = 0
    simp
  show count - ((FloatOps.sitofp (F := Ideal) .f32 (0#32 : BitVec 32) : Ideal .f32) : EReal) = count
  rw [e, sub_zero]

variable (A : Args)

/-- The stack before normalisation. -/
theorem v74_at (b : Fin 8) (c : Fin 384) (h w : Fin 32) :
    val_main_v74 (F := Ideal) A.x A.theta A.phi A.g A.o A.w1 A.b1 A.w2 A.b2 A.proto (ix4 b c h w)
      = (A.net b).outR c (pos h w) := by
  have hv := v72_at A b c (pos h w)
  unfold val_main_v74 val_main_v73
  generalize val_main_v72 (F := Ideal) A.x A.theta A.phi A.g A.o A.w1 A.b1 A.w2 A.b2 A.proto = z at hv ⊢
  have hx : A.x (ix4 b c h w) = (A.net b).x c (pos h w) := by
    have hf : (A.net b).x c (pos h w) = A.x (ix4 b c (rowPart (pos h w)) (colPart (pos h w))) := flatten A.x b c (pos h w)
    have hr : rowPart (pos h w) = h := Fin.ext (by show (h.val * 32 + w.val) / 32 = h.val; omega)
    have hc : colPart (pos h w) = w := Fin.ext (by show (h.val * 32 + w.val) % 32 = w.val; omega)
    rw [hf, hr, hc]
  exact congrArg₂ (fun u v : EReal => u + v) hx ((unflatten z b c h w).trans hv)

/-- The sum of a channel over the stack. -/
def total (c : Fin 384) : EReal := ∑ b, ∑ n, (A.net b).outR c n

/-- The sum of a channel's square distances to its mean. -/
def spreadTotal (c : Fin 384) : EReal :=
  ∑ b, ∑ n, ((A.net b).outR c n - Ideal.div (total A c) count) * ((A.net b).outR c n - Ideal.div (total A c) count)

/-- The sum of a channel of a stack given position by position. -/
theorem channelSum_of (y : FVec Ideal S8x384x32x32 .f32) (f : Fin 8 → Fin 1024 → EReal) (c : Fin 384)
    (h : ∀ b r w, y (ix4 b c r w) = f b (pos r w)) :
    Host.reduceAdd y (constant S_ .f32 0x00000000#32) reducesTo_S8x384x32x32_S384_d0_2_3 h_S_ (ix1 c)
      = ∑ b, ∑ n, f b n := by
  rw [channelSum]
  refine Finset.sum_congr rfl fun b _ => ?_
  simp only [h]
  exact sum_pos (f b)

/-- A channel's total over the count, as the host divides it. -/
theorem average (t : FVec Ideal S384 .f32) (d : FVec Ideal S_ .f32) (hd : ∀ i, d i = count) (c : Fin 384) :
    Host.divf (broadcastInDim S1x384x1x1 ![1] bcast_S384_S1x384x1x1_1 t)
        (broadcastInDim S1x384x1x1 ![] bcast_S_S1x384x1x1 d) (ix4 0 c 0 0)
      = Ideal.div (t (ix1 c)) count :=
  congrArg₂ Ideal.div (as_channel t c) (hd _)

/-- The mean of a channel, read where the values are normalised. -/
theorem v78_at (c : Fin 384) :
    val_main_v78 (F := Ideal) A.x A.theta A.phi A.g A.o A.w1 A.b1 A.w2 A.b2 A.proto (ix4 0 c 0 0)
      = Ideal.div (total A c) count := by
  refine (average _ _ (fun _ => rfl) c).trans (congrArg (Ideal.div · count) ?_)
  exact channelSum_of _ (fun b n => (A.net b).outR c n) c fun b r w => v74_at A b c r w

/-- The mean of a channel, read where the variance is taken. -/
theorem varMean_at (c : Fin 384) :
    val_main_call3_v3 (F := Ideal) A.x A.theta A.phi A.g A.o A.w1 A.b1 A.w2 A.b2 A.proto (ix4 0 c 0 0)
      = Ideal.div (total A c) count := by
  refine (average _ _ (fun _ => rfl) c).trans (congrArg (Ideal.div · count) ?_)
  exact channelSum_of _ (fun b n => (A.net b).outR c n) c fun b r w => v74_at A b c r w

/-- A value's distance to its channel's mean, where the variance is taken. -/
theorem distance_at (b : Fin 8) (c : Fin 384) (h w : Fin 32) :
    val_main_call3_v5 (F := Ideal) A.x A.theta A.phi A.g A.o A.w1 A.b1 A.w2 A.b2 A.proto (ix4 b c h w)
      = (A.net b).outR c (pos h w) - Ideal.div (total A c) count := by
  have e := varMean_at A c
  have k := v74_at A b c h w
  unfold val_main_call3_v5 val_main_call3_v4
  generalize val_main_call3_v3 (F := Ideal) A.x A.theta A.phi A.g A.o A.w1 A.b1 A.w2 A.b2 A.proto = m at e ⊢
  generalize val_main_v74 (F := Ideal) A.x A.theta A.phi A.g A.o A.w1 A.b1 A.w2 A.b2 A.proto = y at k ⊢
  exact congrArg₂ (fun u v : EReal => u - v) k ((spread_channel m b c h w).trans e)

/-- The variance of a channel. -/
theorem v79_at (c : Fin 384) :
    val_main_v79 (F := Ideal) A.x A.theta A.phi A.g A.o A.w1 A.b1 A.w2 A.b2 A.proto (ix4 0 c 0 0)
      = Ideal.div (spreadTotal A c) count := by
  have e : val_main_call3_v12 (F := Ideal) A.x A.theta A.phi A.g A.o A.w1 A.b1 A.w2 A.b2 A.proto (ix4 0 c 0 0)
      = Ideal.div (spreadTotal A c) count := by
    refine (average _ _ count_sub c).trans (congrArg (Ideal.div · count) ?_)
    exact channelSum_of _ (fun b n => ((A.net b).outR c n - Ideal.div (total A c) count)
      * ((A.net b).outR c n - Ideal.div (total A c) count)) c fun b r w =>
        congrArg₂ (fun u v : EReal => u * v) (distance_at A b c r w) (distance_at A b c r w)
  unfold val_main_v79
  generalize val_main_call3_v12 (F := Ideal) A.x A.theta A.phi A.g A.o A.w1 A.b1 A.w2 A.b2 A.proto = v at e ⊢
  have hp : val_main_call3_v13 (F := Ideal) = fun _ => 1#1 := by
    funext i
    show FloatOps.cmpf (F := Ideal) .ogt (val_main_call3_v8 (F := Ideal) i) (Ideal.ofBits .f32 0x00000000#32) = 1#1
    rw [count_sub, Ideal.ofBits_zero_f32, count_eq, Ideal.cmpf_def]
    have : (0 : EReal) < ((8192 : ℝ) : EReal) := by exact_mod_cast (by norm_num : (0 : ℝ) < 8192)
    simp [Ideal.cmp, this]
  rw [hp]
  exact e

/-- The standard deviation of a channel, over the stack. -/
theorem v85_at (b : Fin 8) (c : Fin 384) (h w : Fin 32) :
    val_main_v85 (F := Ideal) A.x A.theta A.phi A.g A.o A.w1 A.b1 A.w2 A.b2 A.proto (ix4 b c h w)
      = Ideal.sqrt (Ideal.div (spreadTotal A c) count + small) := by
  have e := v79_at A c
  refine (spread_channel _ b c h w).trans (congrArg Ideal.sqrt ?_)
  exact congrArg (· + small) e

/-- The reference's result at an image, a channel and a position. -/
theorem v93_at (b : Fin 8) (c : Fin 384) (n : Fin 1024) :
    val_main_v93 (F := Ideal) A.x A.theta A.phi A.g A.o A.w1 A.b1 A.w2 A.b2 A.proto A.gamma A.beta (ix3 b c n)
      = normalised (total A c) (spreadTotal A c) count small (A.gamma (ix1 c)) (A.beta (ix1 c))
          ((A.net b).outR c n) := by
  refine (flatten _ b c n).trans ?_
  have hg : val_main_v88 (F := Ideal) A.gamma (ix4 b c (rowPart n) (colPart n)) = A.gamma (ix1 c) :=
    (spread_channel _ b c _ _).trans (reshape_channel A.gamma c)
  have hb : val_main_v91 (F := Ideal) A.beta (ix4 b c (rowPart n) (colPart n)) = A.beta (ix1 c) :=
    (spread_channel _ b c _ _).trans (reshape_channel A.beta c)
  have hy := v74_at A b c (rowPart n) (colPart n)
  rw [pos_parts] at hy
  have hm : val_main_v80 (F := Ideal) A.x A.theta A.phi A.g A.o A.w1 A.b1 A.w2 A.b2 A.proto
      (ix4 b c (rowPart n) (colPart n)) = Ideal.div (total A c) count := (spread_channel _ b c _ _).trans (v78_at A c)
  have hs := v85_at A b c (rowPart n) (colPart n)
  rw [val_main_v92_apply, val_main_v89_apply, val_main_v86_apply, val_main_v81_apply, hg, hb, hy, hm, hs]
  rfl

end Cert.ReferenceIdeal.Hand
-- ==== Proof.Entry.lean ====
module

public import proofs.«01_k».proof.Proof.KernelNorm
public import proofs.«01_k».proof.Proof.RefNorm
public import Idealize.ShloMosaic.Lib.Pipeline.ValueKit.Point

/-!
The blocks the grid points find, in terms of the arguments as launched, so that both programs speak of the same network.
-/

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen
open Cert.ReferenceIdeal.Hand (Args rowPart colPart flatten)

variable (m : (ℓ : Loc nD τ sig) → Buf (Elt Ideal) ℓ) (c : Dev nD) (t : Fin cfg0.N)

/-- The images' window stands at the grid point's pair. -/
theorem index_0 : win0_0.index t = ![t.val, 0, 0] := by
  have ht := pt_lt t
  have e0 : (grid0.coords t 0).val = t.val / 1 % 4 := Pipeline.Grid.coords_val t 0 (by decide) rfl
  funext a
  match a with
  | 0 =>
    show (BitVec.ofNat 32 (grid0.coords t 0).val).toNat = t.val
    rw [e0, BitVec.toNat_ofNat]
    omega
  | 1 => rfl
  | 2 => rfl

/-! A window that never moves holds its whole array; a bias, a gain or an offset holds it with an axis of size one. -/

theorem blk_1 (i : S128x384.Idx) : iblk m c 1 t i = m ((c : Thread nD τ).loc main_arg1) i := by
  have e : win0_1.index t = ![0, 0] := rfl
  blk_ext! [iblk, V_main_arg1, e]

theorem blk_2 (i : S128x384.Idx) : iblk m c 2 t i = m ((c : Thread nD τ).loc main_arg2) i := by
  have e : win0_2.index t = ![0, 0] := rfl
  blk_ext! [iblk, V_main_arg2, e]

theorem blk_3 (i : S128x384.Idx) : iblk m c 3 t i = m ((c : Thread nD τ).loc main_arg3) i := by
  have e : win0_3.index t = ![0, 0] := rfl
  blk_ext! [iblk, V_main_arg3, e]

theorem blk_4 (i : S384x128.Idx) : iblk m c 4 t i = m ((c : Thread nD τ).loc main_arg4) i := by
  have e : win0_4.index t = ![0, 0] := rfl
  blk_ext! [iblk, V_main_arg4, e]

theorem blk_5 (i : S256x1024.Idx) : iblk m c 5 t i = m ((c : Thread nD τ).loc main_arg5) i := by
  have e : win0_5.index t = ![0, 0] := rfl
  blk_ext! [iblk, V_main_arg5, e]

theorem blk_7 (i : S1024x256.Idx) : iblk m c 7 t i = m ((c : Thread nD τ).loc main_arg7) i := by
  have e : win0_7.index t = ![0, 0] := rfl
  blk_ext! [iblk, V_main_arg7, e]

theorem blk_9 (i : S128x1024.Idx) : iblk m c 9 t i = m ((c : Thread nD τ).loc main_arg9) i := by
  have e : win0_9.index t = ![0, 0] := rfl
  blk_ext! [iblk, V_main_arg9, e]

theorem blk_6 (h : Fin 256) : iblk m c 6 t (ix2 0 h) = m ((c : Thread nD τ).loc main_arg6) (ix1 h) := by
  have e : win0_6.index t = ![0, 0] := rfl
  blk_ext! [iblk, V, e]

theorem blk_8 (h : Fin 1024) : iblk m c 8 t (ix2 0 h) = m ((c : Thread nD τ).loc main_arg8) (ix1 h) := by
  have e : win0_8.index t = ![0, 0] := rfl
  blk_ext! [iblk, V, e]

theorem blk_10 (h : Fin 384) : iblk m c 10 t (ix2 h 0) = m ((c : Thread nD τ).loc main_arg10) (ix1 h) := by
  have e : win0_10.index t = ![0, 0] := rfl
  blk_ext! [iblk, V, e]

theorem blk_11 (h : Fin 384) : iblk m c 11 t (ix2 h 0) = m ((c : Thread nD τ).loc main_arg11) (ix1 h) := by
  have e : win0_11.index t = ![0, 0] := rfl
  blk_ext! [iblk, V, e]

/-- Image `s` of grid point `t`'s pair is image `2 t + s` of the stack. -/
theorem pair_at (s : Fin 2) (r : Fin 384) (n : Fin 1024) (b : Fin 8) (h : b.val = 2 * t.val + s.val) :
    pair m c t (ix3 s r n) = m ((c : Thread nD τ).loc main_arg0) (ix4 b r (rowPart n) (colPart n)) := by
  unfold pair
  blk_ext! [iblk, V, index_0]
  all_goals rfl

/-- The arguments as launched. -/
def argsOf : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9), m ((c : Thread nD τ).loc main_arg10), m ((c : Thread nD τ).loc main_arg11)⟩

/-- The network of image `b` as the kernel's blocks give it is the one the arguments give. -/
theorem netAt_eq (b : Fin 8) : netAt m c b = (argsOf m c).net b := by
  refine Net.ext (funext fun r => funext fun n => ?_) (funext fun f => funext fun r => ?_)
    (funext fun f => funext fun r => ?_) (funext fun f => funext fun r => ?_) (funext fun r => funext fun f => ?_)
    (funext fun h => funext fun k => ?_) (funext fun h => ?_) (funext fun k => funext fun h => ?_)
    (funext fun k => ?_) (funext fun f => funext fun k => ?_) rfl rfl rfl
  · have e := pair_at m c (ptOf b) (slotOf b) r n b (by show b.val = 2 * (b.val / 2) + b.val % 2; omega)
    exact e.trans (flatten (argsOf m c).x b r n).symm
  · exact blk_1 m c (ptOf b) (ix2 f r)
  · exact blk_2 m c (ptOf b) (ix2 f r)
  · exact blk_3 m c (ptOf b) (ix2 f r)
  · exact blk_4 m c (ptOf b) (ix2 r f)
  · exact blk_5 m c (ptOf b) (ix2 h k)
  · exact blk_6 m c (ptOf b) h
  · exact blk_7 m c (ptOf b) (ix2 k h)
  · exact blk_8 m c (ptOf b) k
  · exact blk_9 m c (ptOf b) (ix2 f k)

/-- The gain of a channel is the argument's. -/
theorem gain_at (r : Fin 384) : gain m c lastPt (ix2 r 0) = (argsOf m c).gamma (ix1 r) := blk_10 m c lastPt r

/-- The offset of a channel is the argument's. -/
theorem offset_at (r : Fin 384) : offset m c lastPt (ix2 r 0) = (argsOf m c).beta (ix1 r) := blk_11 m c lastPt r

end Cert.KernelIdeal.Hand
-- ==== Proof.Finite.lean ====
module

public import proofs.«01_k».proof.Pre_finite_inputs
public import proofs.«01_k».proof.Proof.Reals
public import Idealize.ShloMosaic.Lib.ReduceAll

/-!
The precondition, read: every value of the arrays it names is a real number.
-/

@[expose] public section

set_option maxRecDepth 16384

noncomputable section

namespace Cert.Pre_finite_inputs

open Idealize.ShloMosaic
open Cert.KernelIdeal.Hand (IsReal isReal_of_ne)

/-- The shape relations the precondition states. -/
theorem facts : Facts where
  bcast_S_S8x384x32x32 := by decide
  reducesTo_S8x384x32x32_S_d0_1_2_3 := by decide
  h_S_ := by decide
  bcast_S_S128x384 := by decide
  reducesTo_S128x384_S_d0_1 := by decide
  bcast_S_S384x128 := by decide
  reducesTo_S384x128_S_d0_1 := by decide
  bcast_S_S128x1024 := by decide
  reducesTo_S128x1024_S_d0_1 := by decide
  bcast_S_S384 := by decide
  reducesTo_S384_S_d0 := by decide

/-- The word of infinity. -/
theorem word_top : Ideal.ofBits .f32 0x7F800000#32 = ⊤ := by simp [Ideal.ofBits, Ideal.ieee]

instance : Subsingleton S_.Idx := ⟨fun _ _ => funext fun a => a.elim0⟩

/-- An array whose absolute values all lie under infinity holds real numbers. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : IsReal (x i) := by
  have h := Host.reduce_andi_all _ _ hr hu j e i
  have h' : Ideal.cmp .olt (max (x i : EReal) (-(x i : EReal))) (Ideal.ofBits .f32 0x7F800000#32) = 1#1 := h
  rw [word_top] at h'
  have lt : max (x i : EReal) (-(x i : EReal)) < ⊤ := by
    by_contra hn
    simp [Ideal.cmp, hn] at h'
  refine isReal_of_ne (fun hx => ?_) (fun hx => ?_)
  · rw [hx] at lt; simp at lt
  · rw [hx] at lt; simp at lt

/-- What the precondition says of the arguments. -/
theorem reals [Facts] {x0 x1 x2 x3 x4 x5 x6 x7 x8 x9 x10 x11}
    (h : ∀ j, fn (F := Ideal) x0 x1 x2 x3 x4 x5 x6 x7 x8 x9 x10 x11 j = 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x9 i)) ∧ ∀ i, IsReal (x10 i) := by
  have e := h (fun a => a.elim0)
  dsimp only [fn, fn_part1] at e
  obtain ⟨e, e10⟩ := IntOp.andi_eq_one.1 e
  obtain ⟨e, e9⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ e0, real_of_all _ _ _ _ _ e1, real_of_all _ _ _ _ _ e2, real_of_all _ _ _ _ _ e3,
    real_of_all _ _ _ _ _ e4, real_of_all _ _ _ _ _ e9, real_of_all _ _ _ _ _ e10⟩

end Cert.Pre_finite_inputs
-- ==== Proof.Agree.lean ====
module

public import proofs.«01_k».proof.Proof.Entry
public import proofs.«01_k».proof.Proof.Finite

/-!
The kernel's result is the reference's, for real inputs.
-/

@[expose] public section

set_option maxRecDepth 16384

noncomputable section

namespace Cert.KernelIdeal.Hand

open Idealize.ShloMosaic Idealize.ShloMosaic.TcCoe
open Cert.KernelIdeal Cert.KernelIdeal.Gen
open Cert.ReferenceIdeal.Hand (Args rowPart colPart flatten total spreadTotal v93_at)
open Cert.ReferenceIdeal.Read (val_main_v93)

/-- The shrink's threshold is a real number, not negative. -/
theorem threshold_nonneg : ∃ r : ℝ, 0 ≤ r ∧ threshold = (r : EReal) := by
  refine ⟨1 / 1024, by norm_num, ?_⟩
  simp [threshold, Ideal.ofBits, Ideal.ieee]
  rw [← EReal.coe_mul]
  norm_num

/-- The small number added before a division is a positive real number. -/
theorem tiny_pos : ∃ r : ℝ, 0 < r ∧ tiny = (r : EReal) := by
  simp [tiny, Ideal.ofBits, Ideal.ieee]
  exact ⟨_, by positivity, (EReal.coe_mul _ _).symm⟩

/-- The small number added to the variance is a positive real number. -/
theorem small_pos : ∃ r : ℝ, 0 < r ∧ small = (r : EReal) := by
  simp [small, Ideal.ofBits, Ideal.ieee]
  exact ⟨_, by positivity, (EReal.coe_mul _ _).symm⟩

/-- The arguments the equation needs to be real numbers. -/
structure Real (A : Args) : Prop where
  x : ∀ i, IsReal (A.x i)
  theta : ∀ i, IsReal (A.theta i)
  phi : ∀ i, IsReal (A.phi i)
  g : ∀ i, IsReal (A.g i)
  o : ∀ i, IsReal (A.o i)
  proto : ∀ i, IsReal (A.proto i)
  gamma : ∀ i, IsReal (A.gamma i)

variable {A : Args} (hA : Real A)
include hA

theorem Real.net (b : Fin 8) : (A.net b).RealData where
  x c n := by
    have e : (A.net b).x c n = A.x (ix4 b c (rowPart n) (colPart n)) := flatten A.x b c n
    rw [e]
    exact hA.x _
  theta _ _ := hA.theta _
  phi _ _ := hA.phi _
  g _ _ := hA.g _
  o _ _ := hA.o _
  proto _ _ := hA.proto _
  s := ⟨_, rfl⟩
  lam := threshold_nonneg
  eps := tiny_pos

/-- One channel: scaling by the gain and adding the offset is normalising. -/
theorem Real.channel (b : Fin 8) (r : Fin 384) (n : Fin 1024) :
    (A.net b).outK r n
        * gainOf (∑ b, ∑ n, (A.net b).outK r n) (∑ b, ∑ n, (A.net b).outK r n * (A.net b).outK r n)
            count small (A.gamma (ix1 r))
      + offsetOf (∑ b, ∑ n, (A.net b).outK r n) (∑ b, ∑ n, (A.net b).outK r n * (A.net b).outK r n)
            count small (A.gamma (ix1 r)) (A.beta (ix1 r))
      = normalised (total A r) (spreadTotal A r) count small (A.gamma (ix1 r)) (A.beta (ix1 r)) ((A.net b).outR r n) := by
  have e := normalise_eq (ι := Fin 8 × Fin 1024) (y := fun p => (A.net p.1).outK r p.2)
    (fun p => Net.outK_isReal (hA.net p.1) r p.2) (n := count)
    (by rw [count_eq]; norm_num) (by simp) small_pos (hA.gamma (ix1 r)) (A.beta (ix1 r)) (b, n)
  simp only [Fintype.sum_prod_type] at e
  rw [e]
  simp only [fun (b : Fin 8) (n : Fin 1024) => Net.out_eq (hA.net b) r n]
  rfl

omit hA

variable (m : (ℓ : Loc nD τ sig) → Buf (Elt Ideal) ℓ) (c : Dev nD)

/-- The kernel's result at an image, a channel and a position, in terms of the arguments as launched. -/
theorem result_point (h : Real (argsOf m c)) (b : Fin 8) (r : Fin 384) (n : Fin 1024) :
    (result m c (ix3 b r n) : EReal) = normalised (total (argsOf m c) r) (spreadTotal (argsOf m c) r) count small
      ((argsOf m c).gamma (ix1 r)) ((argsOf m c).beta (ix1 r)) (((argsOf m c).net b).outR r n) := by
  refine (result_at m c b r n).trans ?_
  simp only [netAt_eq]
  rw [gain_at, offset_at]
  exact h.channel b r n

/-- The kernel's result is the reference's function of the arguments as launched. -/
theorem result_eq (h : Real (argsOf m c)) :
    result m c = val_main_v93 (F := Ideal) (argsOf m c).x (argsOf m c).theta (argsOf m c).phi (argsOf m c).g
      (argsOf m c).o (argsOf m c).w1 (argsOf m c).b1 (argsOf m c).w2 (argsOf m c).b2 (argsOf m c).proto
      (argsOf m c).gamma (argsOf m c).beta := by
  funext j
  obtain ⟨b, r, n, rfl⟩ : ∃ (b : Fin 8) (r : Fin 384) (n : Fin 1024), j = ix3 b r n :=
    ⟨j 0, j 1, j 2, funext fun a => match a with | 0 => rfl | 1 => rfl | 2 => rfl⟩
  exact (result_point m c h b r n).trans (v93_at (argsOf m c) b r n).symm

end Cert.KernelIdeal.Hand
-- ==== Proof.Guard.lean ====
/- What the shrink's guard does over the reals.

   `reference.py` divides by `|a - l| + 1e-12`; the kernel keeps `a` where it exceeds `l` and puts zero
   elsewhere; the reference of the claim divides by `|a - l|` and by one where that is zero. The last two
   are one function. The first is that function times `(a - l) / ((a - l) + 1e-12)` above the threshold,
   so it is another function. -/
module

public import Mathlib.Analysis.Real.Sqrt

@[expose] public section

namespace Cert.Shrink

/-- The shrink with `g` added to the denominator, as `reference.py` writes it. -/
noncomputable def padded (g l a : ℝ) : ℝ := max (a - l) 0 * a / (|a - l| + g)

/-- The shrink with the zero denominator, and no other, replaced by one. -/
noncomputable def guarded (l a : ℝ) : ℝ := max (a - l) 0 * a / (if |a - l| = 0 then 1 else |a - l|)

/-- The kernel's selection: what exceeds the threshold is kept. -/
noncomputable def kept (l a : ℝ) : ℝ := if l < a then a else 0

/-- The guarded quotient is the kernel's selection, at every number. -/
theorem guarded_eq_kept (l a : ℝ) : guarded l a = kept l a := by
  unfold guarded kept
  by_cases h : l < a
  · have hd : 0 < a - l := sub_pos.2 h
    rw [if_pos h, abs_of_pos hd, if_neg hd.ne', max_eq_left hd.le, mul_div_cancel_left₀ _ hd.ne']
  · rw [if_neg h, max_eq_right (sub_nonpos.2 (not_lt.1 h)), zero_mul, zero_div]

/-- The padded quotient is the selection times `(a - l) / ((a - l) + g)` above the threshold. -/
theorem padded_eq (g l a : ℝ) : padded g l a = kept l a * ((a - l) / (a - l + g)) := by
  unfold padded kept
  by_cases h : l < a
  · have hd : 0 < a - l := sub_pos.2 h
    rw [if_pos h, abs_of_pos hd, max_eq_left hd.le, mul_comm (a - l) a, mul_div_assoc]
  · rw [if_neg h, max_eq_right (sub_nonpos.2 (not_lt.1 h)), zero_mul, zero_div, zero_mul]

/-- How far the two lie apart: `a * g / ((a - l) + g)` above the threshold, nothing below it. -/
theorem kept_sub_padded (g l a : ℝ) (hg : 0 < g) :
    kept l a - padded g l a = kept l a * (g / (|a - l| + g)) := by
  rw [padded_eq]
  unfold kept
  by_cases h : l < a
  · have hd : 0 < a - l := sub_pos.2 h
    rw [if_pos h, abs_of_pos hd]
    field_simp
    ring
  · rw [if_neg h, zero_mul, zero_mul, sub_zero]

/-- With a positive guard and a nonnegative threshold the two differ at every number above it. -/
theorem padded_lt_kept (g l a : ℝ) (hg : 0 < g) (hl : 0 ≤ l) (h : l < a) : padded g l a < kept l a := by
  have e := kept_sub_padded g l a hg
  have hp : 0 < kept l a * (g / (|a - l| + g)) := by
    rw [kept, if_pos h]
    have := abs_nonneg (a - l)
    exact mul_pos (hl.trans_lt h) (div_pos hg (by linarith))
  linarith

end Cert.Shrink

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Original
public import proofs.«01_k».proof.Proof.Agree
public import proofs.«01_k».proof.Proof.Guard
public import Idealize.ShloMosaic.Adequacy
public import Idealize.ShloMosaic.Init
public import Idealize.ShloMosaic.Lib.Quiescent

@[expose] public section

noncomputable section

namespace Cert.Proof

open Idealize.ShloMosaic Idealize.SL.Sem Cert.Kernel
open Cert.ReferenceIdeal.Read (val_main_v93 val_main_v93_eq)
open Cert.KernelIdeal.Hand (argsOf)

/-- The reference is host code alone: it runs, leaves its arguments as they were, and has no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant is `(√128)⁻¹` by the certificate's table. -/
theorem preserves : Cert.preserves_Kernel_KernelIdeal :=
  IdealRules.named_const.statement Cert.KernelIdeal.κ "s" .f32 0x3DB504F3#32 (((Real.sqrt 128)⁻¹ : ℝ) : EReal) rfl

/-- The precondition makes the arguments the equation speaks of real numbers. -/
theorem real_args [Cert.Pre_finite_inputs.Facts]
    (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    Cert.KernelIdeal.Hand.Real (argsOf m c) := by
  obtain ⟨h0, h1, h2, h3, h4, h9, h10⟩ := Cert.Pre_finite_inputs.reals (fun j => congrFun (h c) j)
  exact ⟨h0, h1, h2, h3, h4, h9, h10⟩

/-- From memories agreeing on the arguments, the kernel and the reference end with the same array. -/
theorem algebraic [Cert.Pre_finite_inputs.Facts] : Cert.algebraic_KernelIdeal_ReferenceIdeal_pre_finite_inputs := by
  intro m g m' g' hpre hargs
  refine ⟨fun c => Cert.KernelIdeal.Hand.result m c, Cert.KernelIdeal.Hand.run_value m g, ?_⟩
  refine (θ_run Cert.ReferenceIdeal.defs _ _).mono (fun r h c => ⟨?_, (h c).2⟩)
    (Cert.ReferenceIdeal.Value.run (F := Ideal) m' g')
  refine (h c).1.trans ((val_main_v93_eq (F := Ideal) (StableHlo.launchContents m' c)).trans ?_)
  refine Eq.trans ?_ (Cert.KernelIdeal.Hand.result_eq m c (real_args m hpre c)).symm
  obtain ⟨e0, e1, e2, e3, e4, e5, e6, e7, e8, e9, e10, e11⟩ := hargs c
  exact congr (congr (congr (congr (congr (congr (congr (congr (congr (congr (congr (congrArg (val_main_v93 (F := Ideal))
    e0) e1) e2) e3) e4) e5) e6) e7) e8) e9) e10) e11

/-- Every claim of the certificate. -/
theorem claim : Cert.Claim := ⟨Cert.Kernel.Gen.facts, Cert.KernelIdeal.Gen.facts, Cert.ReferenceIdeal.Gen.facts,
  Cert.Pre_finite_inputs.facts,
  Cert.Kernel.Hand.frame,
  fun m ρ _ => Cert.KernelIdeal.Hand.frame m ρ,
  fun m ρ _ => Cert.KernelIdeal.Hand.frame m ρ,
  reference_frame,
  fun m ρ _ => reference_frame m ρ trivial,
  preserves,
  @algebraic Cert.Pre_finite_inputs.facts⟩

end Cert.Proof

end
